-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S1 : Shape := ⟨1, ![1]⟩
abbrev S4096x64 : Shape := ⟨2, ![4096, 64]⟩
abbrev S32x128x64 : Shape := ⟨3, ![32, 128, 64]⟩
abbrev S31 : Shape := ⟨1, ![31]⟩
abbrev S_ : Shape := ⟨0, ![]⟩
abbrev S128x2048 : Shape := ⟨2, ![128, 2048]⟩
abbrev S128x64 : Shape := ⟨2, ![128, 64]⟩
abbrev S1x128x64 : Shape := ⟨3, ![1, 128, 64]⟩

abbrev nBuf : Space → Nat
  | .hbm => 5
  | .vmem => 4
  | .smem => 2
  | _ => 0

abbrev bufTy : (tb : Table) → Fin (tcTables nBuf tb) → BufTy
  | .hbm, ⟨0, _⟩ => ⟨S128x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x64, .f32⟩
  | .local _ .vmem, ⟨0, _⟩ => ⟨S128x4096, .fp8e4m3⟩
  | .local _ .vmem, ⟨1, _⟩ => ⟨S4096x2048, .fp8e4m3⟩
  | .local _ .vmem, ⟨2, _⟩ => ⟨S4096x64, .f32⟩
  | .local _ .vmem, ⟨3, _⟩ => ⟨S32x128x64, .f32⟩
  | .local _ .smem, ⟨0, _⟩ => ⟨S1, .f32⟩
  | .local _ .smem, ⟨1, _⟩ => ⟨S1, .f32⟩
  | _, _ => ⟨S128x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_mult1 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v266 : BitVec 32 := Scalar.muli v2 c128_i32
  v266
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v268 : Index := Scalar.indexCast v2
  let c0_194 : Index := 0#32
  let c0_195 : Index := 0#32
  ![v268.toNat, 0, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v266 : BitVec 32 := Scalar.muli v2 c128_i32
  let v267 : BitVec 32 := v266
  let v271 : Index := Scalar.indexCast v267
  let c0_196 : Index := 0#32
  ![v271.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v266 : BitVec 32 := Scalar.muli v2 c128_i32
  let v267 : BitVec 32 := v266
  let c0_i32_204 : BitVec 32 := 0#32
  ![v267.toNat, 0]
def k0_off4 (d0 : Dev nD) (c1_i32_198 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v273 : BitVec 32 := Scalar.addi v2 c1_i32_198
  let c32_i32_199 : BitVec 32 := 32#32
  let v274 : BitVec 32 := Scalar.remsi v273 c32_i32_199
  let c0_i32_205 : BitVec 32 := 0#32
  let c0_i32_206 : BitVec 32 := 0#32
  ![v274.toNat, 0, 0]
def k0_dev32 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_198 : BitVec 32 := 1#32
  let v273 : BitVec 32 := Scalar.addi v2 c1_i32_198
  let c32_i32_199 : BitVec 32 := 32#32
  let v274 : BitVec 32 := Scalar.remsi v273 c32_i32_199
  let c1_i32_202 : BitVec 32 := 1#32
  let v275 : BitVec 32 := Scalar.muli v274 c1_i32_202
  let v276 : BitVec 32 := Scalar.addi c0_i32_203 v275
  v276.toNat
def k0_dev33 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_207 : BitVec 32 := 2#32
  let v284 : BitVec 32 := Scalar.addi v2 c2_i32_207
  let c32_i32_208 : BitVec 32 := 32#32
  let v285 : BitVec 32 := Scalar.remsi v284 c32_i32_208
  let c1_i32_211 : BitVec 32 := 1#32
  let v286 : BitVec 32 := Scalar.muli v285 c1_i32_211
  let v287 : BitVec 32 := Scalar.addi c0_i32_212 v286
  v287.toNat
def k0_dev34 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_216 : BitVec 32 := 3#32
  let v295 : BitVec 32 := Scalar.addi v2 c3_i32_216
  let c32_i32_217 : BitVec 32 := 32#32
  let v296 : BitVec 32 := Scalar.remsi v295 c32_i32_217
  let c1_i32_220 : BitVec 32 := 1#32
  let v297 : BitVec 32 := Scalar.muli v296 c1_i32_220
  let v298 : BitVec 32 := Scalar.addi c0_i32_221 v297
  v298.toNat
def k0_dev35 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_225 : BitVec 32 := 4#32
  let v306 : BitVec 32 := Scalar.addi v2 c4_i32_225
  let c32_i32_226 : BitVec 32 := 32#32
  let v307 : BitVec 32 := Scalar.remsi v306 c32_i32_226
  let c1_i32_229 : BitVec 32 := 1#32
  let v308 : BitVec 32 := Scalar.muli v307 c1_i32_229
  let v309 : BitVec 32 := Scalar.addi c0_i32_230 v308
  v309.toNat
def k0_dev36 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_234 : BitVec 32 := 5#32
  let v317 : BitVec 32 := Scalar.addi v2 c5_i32_234
  let c32_i32_235 : BitVec 32 := 32#32
  let v318 : BitVec 32 := Scalar.remsi v317 c32_i32_235
  let c1_i32_238 : BitVec 32 := 1#32
  let v319 : BitVec 32 := Scalar.muli v318 c1_i32_238
  let v320 : BitVec 32 := Scalar.addi c0_i32_239 v319
  v320.toNat
def k0_dev37 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_243 : BitVec 32 := 6#32
  let v328 : BitVec 32 := Scalar.addi v2 c6_i32_243
  let c32_i32_244 : BitVec 32 := 32#32
  let v329 : BitVec 32 := Scalar.remsi v328 c32_i32_244
  let c1_i32_247 : BitVec 32 := 1#32
  let v330 : BitVec 32 := Scalar.muli v329 c1_i32_247
  let v331 : BitVec 32 := Scalar.addi c0_i32_248 v330
  v331.toNat
def k0_dev38 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_252 : BitVec 32 := 7#32
  let v339 : BitVec 32 := Scalar.addi v2 c7_i32_252
  let c32_i32_253 : BitVec 32 := 32#32
  let v340 : BitVec 32 := Scalar.remsi v339 c32_i32_253
  let c1_i32_256 : BitVec 32 := 1#32
  let v341 : BitVec 32 := Scalar.muli v340 c1_i32_256
  let v342 : BitVec 32 := Scalar.addi c0_i32_257 v341
  v342.toNat
def k0_dev39 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_261 : BitVec 32 := 8#32
  let v350 : BitVec 32 := Scalar.addi v2 c8_i32_261
  let c32_i32_262 : BitVec 32 := 32#32
  let v351 : BitVec 32 := Scalar.remsi v350 c32_i32_262
  let c1_i32_265 : BitVec 32 := 1#32
  let v352 : BitVec 32 := Scalar.muli v351 c1_i32_265
  let v353 : BitVec 32 := Scalar.addi c0_i32_266 v352
  v353.toNat
def k0_dev40 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_270 : BitVec 32 := 9#32
  let v361 : BitVec 32 := Scalar.addi v2 c9_i32_270
  let c32_i32_271 : BitVec 32 := 32#32
  let v362 : BitVec 32 := Scalar.remsi v361 c32_i32_271
  let c1_i32_274 : BitVec 32 := 1#32
  let v363 : BitVec 32 := Scalar.muli v362 c1_i32_274
  let v364 : BitVec 32 := Scalar.addi c0_i32_275 v363
  v364.toNat
def k0_dev41 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_279 : BitVec 32 := 10#32
  let v372 : BitVec 32 := Scalar.addi v2 c10_i32_279
  let c32_i32_280 : BitVec 32 := 32#32
  let v373 : BitVec 32 := Scalar.remsi v372 c32_i32_280
  let c1_i32_283 : BitVec 32 := 1#32
  let v374 : BitVec 32 := Scalar.muli v373 c1_i32_283
  let v375 : BitVec 32 := Scalar.addi c0_i32_284 v374
  v375.toNat
def k0_dev42 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_288 : BitVec 32 := 11#32
  let v383 : BitVec 32 := Scalar.addi v2 c11_i32_288
  let c32_i32_289 : BitVec 32 := 32#32
  let v384 : BitVec 32 := Scalar.remsi v383 c32_i32_289
  let c1_i32_292 : BitVec 32 := 1#32
  let v385 : BitVec 32 := Scalar.muli v384 c1_i32_292
  let v386 : BitVec 32 := Scalar.addi c0_i32_293 v385
  v386.toNat
def k0_dev43 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_297 : BitVec 32 := 12#32
  let v394 : BitVec 32 := Scalar.addi v2 c12_i32_297
  let c32_i32_298 : BitVec 32 := 32#32
  let v395 : BitVec 32 := Scalar.remsi v394 c32_i32_298
  let c1_i32_301 : BitVec 32 := 1#32
  let v396 : BitVec 32 := Scalar.muli v395 c1_i32_301
  let v397 : BitVec 32 := Scalar.addi c0_i32_302 v396
  v397.toNat
def k0_dev44 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_306 : BitVec 32 := 13#32
  let v405 : BitVec 32 := Scalar.addi v2 c13_i32_306
  let c32_i32_307 : BitVec 32 := 32#32
  let v406 : BitVec 32 := Scalar.remsi v405 c32_i32_307
  let c1_i32_310 : BitVec 32 := 1#32
  let v407 : BitVec 32 := Scalar.muli v406 c1_i32_310
  let v408 : BitVec 32 := Scalar.addi c0_i32_311 v407
  v408.toNat
def k0_dev45 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_315 : BitVec 32 := 14#32
  let v416 : BitVec 32 := Scalar.addi v2 c14_i32_315
  let c32_i32_316 : BitVec 32 := 32#32
  let v417 : BitVec 32 := Scalar.remsi v416 c32_i32_316
  let c1_i32_319 : BitVec 32 := 1#32
  let v418 : BitVec 32 := Scalar.muli v417 c1_i32_319
  let v419 : BitVec 32 := Scalar.addi c0_i32_320 v418
  v419.toNat
def k0_dev46 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_324 : BitVec 32 := 15#32
  let v427 : BitVec 32 := Scalar.addi v2 c15_i32_324
  let c32_i32_325 : BitVec 32 := 32#32
  let v428 : BitVec 32 := Scalar.remsi v427 c32_i32_325
  let c1_i32_328 : BitVec 32 := 1#32
  let v429 : BitVec 32 := Scalar.muli v428 c1_i32_328
  let v430 : BitVec 32 := Scalar.addi c0_i32_329 v429
  v430.toNat
def k0_dev47 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_333 : BitVec 32 := 16#32
  let v438 : BitVec 32 := Scalar.addi v2 c16_i32_333
  let c32_i32_334 : BitVec 32 := 32#32
  let v439 : BitVec 32 := Scalar.remsi v438 c32_i32_334
  let c1_i32_337 : BitVec 32 := 1#32
  let v440 : BitVec 32 := Scalar.muli v439 c1_i32_337
  let v441 : BitVec 32 := Scalar.addi c0_i32_338 v440
  v441.toNat
def k0_dev48 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_342 : BitVec 32 := 17#32
  let v449 : BitVec 32 := Scalar.addi v2 c17_i32_342
  let c32_i32_343 : BitVec 32 := 32#32
  let v450 : BitVec 32 := Scalar.remsi v449 c32_i32_343
  let c1_i32_346 : BitVec 32 := 1#32
  let v451 : BitVec 32 := Scalar.muli v450 c1_i32_346
  let v452 : BitVec 32 := Scalar.addi c0_i32_347 v451
  v452.toNat
def k0_dev49 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_351 : BitVec 32 := 18#32
  let v460 : BitVec 32 := Scalar.addi v2 c18_i32_351
  let c32_i32_352 : BitVec 32 := 32#32
  let v461 : BitVec 32 := Scalar.remsi v460 c32_i32_352
  let c1_i32_355 : BitVec 32 := 1#32
  let v462 : BitVec 32 := Scalar.muli v461 c1_i32_355
  let v463 : BitVec 32 := Scalar.addi c0_i32_356 v462
  v463.toNat
def k0_dev50 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_360 : BitVec 32 := 19#32
  let v471 : BitVec 32 := Scalar.addi v2 c19_i32_360
  let c32_i32_361 : BitVec 32 := 32#32
  let v472 : BitVec 32 := Scalar.remsi v471 c32_i32_361
  let c1_i32_364 : BitVec 32 := 1#32
  let v473 : BitVec 32 := Scalar.muli v472 c1_i32_364
  let v474 : BitVec 32 := Scalar.addi c0_i32_365 v473
  v474.toNat
def k0_dev51 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_369 : BitVec 32 := 20#32
  let v482 : BitVec 32 := Scalar.addi v2 c20_i32_369
  let c32_i32_370 : BitVec 32 := 32#32
  let v483 : BitVec 32 := Scalar.remsi v482 c32_i32_370
  let c1_i32_373 : BitVec 32 := 1#32
  let v484 : BitVec 32 := Scalar.muli v483 c1_i32_373
  let v485 : BitVec 32 := Scalar.addi c0_i32_374 v484
  v485.toNat
def k0_dev52 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_378 : BitVec 32 := 21#32
  let v493 : BitVec 32 := Scalar.addi v2 c21_i32_378
  let c32_i32_379 : BitVec 32 := 32#32
  let v494 : BitVec 32 := Scalar.remsi v493 c32_i32_379
  let c1_i32_382 : BitVec 32 := 1#32
  let v495 : BitVec 32 := Scalar.muli v494 c1_i32_382
  let v496 : BitVec 32 := Scalar.addi c0_i32_383 v495
  v496.toNat
def k0_dev53 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_387 : BitVec 32 := 22#32
  let v504 : BitVec 32 := Scalar.addi v2 c22_i32_387
  let c32_i32_388 : BitVec 32 := 32#32
  let v505 : BitVec 32 := Scalar.remsi v504 c32_i32_388
  let c1_i32_391 : BitVec 32 := 1#32
  let v506 : BitVec 32 := Scalar.muli v505 c1_i32_391
  let v507 : BitVec 32 := Scalar.addi c0_i32_392 v506
  v507.toNat
def k0_dev54 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_396 : BitVec 32 := 23#32
  let v515 : BitVec 32 := Scalar.addi v2 c23_i32_396
  let c32_i32_397 : BitVec 32 := 32#32
  let v516 : BitVec 32 := Scalar.remsi v515 c32_i32_397
  let c1_i32_400 : BitVec 32 := 1#32
  let v517 : BitVec 32 := Scalar.muli v516 c1_i32_400
  let v518 : BitVec 32 := Scalar.addi c0_i32_401 v517
  v518.toNat
def k0_dev55 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_405 : BitVec 32 := 24#32
  let v526 : BitVec 32 := Scalar.addi v2 c24_i32_405
  let c32_i32_406 : BitVec 32 := 32#32
  let v527 : BitVec 32 := Scalar.remsi v526 c32_i32_406
  let c1_i32_409 : BitVec 32 := 1#32
  let v528 : BitVec 32 := Scalar.muli v527 c1_i32_409
  let v529 : BitVec 32 := Scalar.addi c0_i32_410 v528
  v529.toNat
def k0_dev56 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_414 : BitVec 32 := 25#32
  let v537 : BitVec 32 := Scalar.addi v2 c25_i32_414
  let c32_i32_415 : BitVec 32 := 32#32
  let v538 : BitVec 32 := Scalar.remsi v537 c32_i32_415
  let c1_i32_418 : BitVec 32 := 1#32
  let v539 : BitVec 32 := Scalar.muli v538 c1_i32_418
  let v540 : BitVec 32 := Scalar.addi c0_i32_419 v539
  v540.toNat
def k0_dev57 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_423 : BitVec 32 := 26#32
  let v548 : BitVec 32 := Scalar.addi v2 c26_i32_423
  let c32_i32_424 : BitVec 32 := 32#32
  let v549 : BitVec 32 := Scalar.remsi v548 c32_i32_424
  let c1_i32_427 : BitVec 32 := 1#32
  let v550 : BitVec 32 := Scalar.muli v549 c1_i32_427
  let v551 : BitVec 32 := Scalar.addi c0_i32_428 v550
  v551.toNat
def k0_dev58 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_432 : BitVec 32 := 27#32
  let v559 : BitVec 32 := Scalar.addi v2 c27_i32_432
  let c32_i32_433 : BitVec 32 := 32#32
  let v560 : BitVec 32 := Scalar.remsi v559 c32_i32_433
  let c1_i32_436 : BitVec 32 := 1#32
  let v561 : BitVec 32 := Scalar.muli v560 c1_i32_436
  let v562 : BitVec 32 := Scalar.addi c0_i32_437 v561
  v562.toNat
def k0_dev59 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_441 : BitVec 32 := 28#32
  let v570 : BitVec 32 := Scalar.addi v2 c28_i32_441
  let c32_i32_442 : BitVec 32 := 32#32
  let v571 : BitVec 32 := Scalar.remsi v570 c32_i32_442
  let c1_i32_445 : BitVec 32 := 1#32
  let v572 : BitVec 32 := Scalar.muli v571 c1_i32_445
  let v573 : BitVec 32 := Scalar.addi c0_i32_446 v572
  v573.toNat
def k0_dev60 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_450 : BitVec 32 := 29#32
  let v581 : BitVec 32 := Scalar.addi v2 c29_i32_450
  let c32_i32_451 : BitVec 32 := 32#32
  let v582 : BitVec 32 := Scalar.remsi v581 c32_i32_451
  let c1_i32_454 : BitVec 32 := 1#32
  let v583 : BitVec 32 := Scalar.muli v582 c1_i32_454
  let v584 : BitVec 32 := Scalar.addi c0_i32_455 v583
  v584.toNat
def k0_dev61 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_459 : BitVec 32 := 30#32
  let v592 : BitVec 32 := Scalar.addi v2 c30_i32_459
  let c32_i32_460 : BitVec 32 := 32#32
  let v593 : BitVec 32 := Scalar.remsi v592 c32_i32_460
  let c1_i32_463 : BitVec 32 := 1#32
  let v594 : BitVec 32 := Scalar.muli v593 c1_i32_463
  let v595 : BitVec 32 := Scalar.addi c0_i32_464 v594
  v595.toNat
def k0_dev62 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_468 : BitVec 32 := 31#32
  let v603 : BitVec 32 := Scalar.addi v2 c31_i32_468
  let c32_i32_469 : BitVec 32 := 32#32
  let v604 : BitVec 32 := Scalar.remsi v603 c32_i32_469
  let c1_i32_472 : BitVec 32 := 1#32
  let v605 : BitVec 32 := Scalar.muli v604 c1_i32_472
  let v606 : BitVec 32 := Scalar.addi c0_i32_473 v605
  v606.toNat
abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Program.lean ====
/-
The body of the kernel as five stretches, each one step repeated along a list: the 31 signals of the entry
handshake, the 32 slabs of the product stored into the scratch buffer, the device's own rows stored into the
result, the wait for the 31 peers, the 31 remote copies and the 31 pairs of waits. The printed body is this
program by definition, up to the devices the signals and copies name, which the printed chains give in closed form.
-/
module

public import proofs.«01_k».proof.Proof.Gen.KernelIdeal
public import proofs.«01_k».proof.Proof.Gen.KernelIdeal.Skeleton

@[expose] public section

noncomputable section

namespace Cert.A2A

open Cert.KernelIdeal Cert.KernelIdeal.Gen
open Idealize.ShloMosaic Idealize.SL.Sem
open Idealize.ShloMosaic.TcCoe

variable {F : FTy → Type} [FloatOps F]

/-! ## The buffers, their parts and the semaphores -/

abbrev xM : Memref sig .tc .vmem S128x4096 .fp8e4m3 := Memref.whole cc0_stg0_0
abbrev wM : Memref sig .tc .vmem S4096x2048 .fp8e4m3 := Memref.whole cc0_stg1_0
abbrev sxM : Memref sig .tc .smem S1 .f32 := Memref.whole cc0_stg2_0
abbrev swM : Memref sig .tc .smem S1 .f32 := Memref.whole cc0_stg3_0
/-- The result's staging buffer. -/
abbrev oM : Memref sig .tc .vmem S4096x64 .f32 := Memref.whole cc0_stg4_0
/-- The scratch buffer of 32 slabs. -/
abbrev cM : Memref sig .tc .vmem S32x128x64 .f32 := Memref.whole cc0_scratch0

/-- The rows of the result that come from device `c`. -/
abbrev rowsM (c : Dev nD) : Memref sig .tc .vmem S128x64 .f32 :=
  oM.slice (Rect.unit (s := S4096x64) (k0_off3 c) S128x64.size (k0_off3_inb c)) (fun _ => rfl)
/-- The slab of the scratch buffer that device `c` copies to the peer `h + 1` places after it. -/
abbrev slabM (c : Dev nD) (h : Fin 31) : Memref sig .tc .vmem S128x64 .f32 :=
  (cM.slice (Rect.unit (s := S32x128x64) (k0_off4 c (BitVec.ofNat 32 (1 + h.val))) S1x128x64.size (k0_off4_inb c h)) (fun _ => rfl)).squeeze
    S128x64 squeezes_S1x128x64_S128x64

theorem inb_sem : ∀ (h : Fin 31) (a : Fin 1), (![h.val] : Fin 1 → Nat) a + S1.size a ≤ S31.size a := by decide
abbrev sendS (h : Fin 31) : DmaSem sig := ((cc0_scratch1.slice (Rect.unit (s := S31) ![h.val] S1.size (inb_sem h))).squeeze S_ squeezes_S1_S_).sem
abbrev recvS (h : Fin 31) : DmaSem sig := ((cc0_scratch2.slice (Rect.unit (s := S31) ![h.val] S1.size (inb_sem h))).squeeze S_ squeezes_S1_S_).sem
/-- The runtime's barrier semaphore of the call's collective id. -/
abbrev barS : Sem sig := (SemArray.scalar (sig.barrier 0 rfl) : Sems sig S_).sem

theorem inb_slab : ∀ (j : Fin 32) (a : Fin 3), (![j.val, 0, 0] : Fin 3 → Nat) a + S1x128x64.size a ≤ S32x128x64.size a := by decide
/-- Slab `j` of the scratch buffer, as a store names it. -/
abbrev slabR (j : Fin 32) : Rect S32x128x64 := Rect.unit (s := S32x128x64) ![j.val, 0, 0] S1x128x64.size (inb_slab j)

theorem slices_col : ∀ j : Fin 32, S128x2048.Slices ![0, 64 * j.val] S128x64 := by decide
/-- Columns `64 j` to `64 j + 63` of the product, as a slab. -/
def colPay (v : FVec F S128x2048 .f32) (j : Fin 32) : FVec F S1x128x64 .f32 :=
  shapeCast S1x128x64 (extractStridedSlice S128x64 ![0, 64 * j.val] v (slices_col j)) shapeCasts_S128x64_S1x128x64
/-- A slab read back as a matrix. -/
def ownPay (v : Vec F S1x128x64 .f32) : FVec F S128x64 .f32 := shapeCast S128x64 v shapeCasts_S1x128x64_S128x64

/-! ## The peers -/

/-- The device `h + 1` places after `c`. -/
def peer (c : Dev nD) (h : Fin 31) : Dev nD := ⟨(c.val + (h.val + 1)) % 32, Nat.mod_lt _ (by decide)⟩

/-- The devices the handshake's signals name, in order. -/
def signalled (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩,
   ⟨k0_dev5 c, k0_dev5_lt c⟩, ⟨k0_dev6 c, k0_dev6_lt c⟩, ⟨k0_dev7 c, k0_dev7_lt c⟩, ⟨k0_dev8 c, k0_dev8_lt c⟩,
   ⟨k0_dev9 c, k0_dev9_lt c⟩, ⟨k0_dev10 c, k0_dev10_lt c⟩, ⟨k0_dev11 c, k0_dev11_lt c⟩, ⟨k0_dev12 c, k0_dev12_lt c⟩,
   ⟨k0_dev13 c, k0_dev13_lt c⟩, ⟨k0_dev14 c, k0_dev14_lt c⟩, ⟨k0_dev15 c, k0_dev15_lt c⟩, ⟨k0_dev16 c, k0_dev16_lt c⟩,
   ⟨k0_dev17 c, k0_dev17_lt c⟩, ⟨k0_dev18 c, k0_dev18_lt c⟩, ⟨k0_dev19 c, k0_dev19_lt c⟩, ⟨k0_dev20 c, k0_dev20_lt c⟩,
   ⟨k0_dev21 c, k0_dev21_lt c⟩, ⟨k0_dev22 c, k0_dev22_lt c⟩, ⟨k0_dev23 c, k0_dev23_lt c⟩, ⟨k0_dev24 c, k0_dev24_lt c⟩,
   ⟨k0_dev25 c, k0_dev25_lt c⟩, ⟨k0_dev26 c, k0_dev26_lt c⟩, ⟨k0_dev27 c, k0_dev27_lt c⟩, ⟨k0_dev28 c, k0_dev28_lt c⟩,
   ⟨k0_dev29 c, k0_dev29_lt c⟩, ⟨k0_dev30 c, k0_dev30_lt c⟩, ⟨k0_dev31 c, k0_dev31_lt c⟩]
/-- The devices the copies name, in order. -/
def targets (c : Dev nD) : List (Dev nD) :=
  [⟨k0_dev32 c, k0_dev32_lt c⟩, ⟨k0_dev33 c, k0_dev33_lt c⟩, ⟨k0_dev34 c, k0_dev34_lt c⟩, ⟨k0_dev35 c, k0_dev35_lt c⟩,
   ⟨k0_dev36 c, k0_dev36_lt c⟩, ⟨k0_dev37 c, k0_dev37_lt c⟩, ⟨k0_dev38 c, k0_dev38_lt c⟩, ⟨k0_dev39 c, k0_dev39_lt c⟩,
   ⟨k0_dev40 c, k0_dev40_lt c⟩, ⟨k0_dev41 c, k0_dev41_lt c⟩, ⟨k0_dev42 c, k0_dev42_lt c⟩, ⟨k0_dev43 c, k0_dev43_lt c⟩,
   ⟨k0_dev44 c, k0_dev44_lt c⟩, ⟨k0_dev45 c, k0_dev45_lt c⟩, ⟨k0_dev46 c, k0_dev46_lt c⟩, ⟨k0_dev47 c, k0_dev47_lt c⟩,
   ⟨k0_dev48 c, k0_dev48_lt c⟩, ⟨k0_dev49 c, k0_dev49_lt c⟩, ⟨k0_dev50 c, k0_dev50_lt c⟩, ⟨k0_dev51 c, k0_dev51_lt c⟩,
   ⟨k0_dev52 c, k0_dev52_lt c⟩, ⟨k0_dev53 c, k0_dev53_lt c⟩, ⟨k0_dev54 c, k0_dev54_lt c⟩, ⟨k0_dev55 c, k0_dev55_lt c⟩,
   ⟨k0_dev56 c, k0_dev56_lt c⟩, ⟨k0_dev57 c, k0_dev57_lt c⟩, ⟨k0_dev58 c, k0_dev58_lt c⟩, ⟨k0_dev59 c, k0_dev59_lt c⟩,
   ⟨k0_dev60 c, k0_dev60_lt c⟩, ⟨k0_dev61 c, k0_dev61_lt c⟩, ⟨k0_dev62 c, k0_dev62_lt c⟩]

/-- The hops, in order, and the slabs. -/
abbrev hops : List (Fin 31) := [0, 1, 2, 3, 4, 5, 6, 7, 8, 9, 10, 11, 12, 13, 14, 15, 16, 17, 18, 19, 20, 21, 22, 23, 24, 25, 26, 27, 28, 29, 30]
abbrev cols : List (Fin 32) := [0, 1, 2, 3, 4, 5, 6, 7, 8, 9, 10, 11, 12, 13, 14, 15, 16, 17, 18, 19, 20, 21, 22, 23, 24, 25, 26, 27, 28, 29, 30, 31
  ]

set_option maxRecDepth 4000 in
theorem signalled_eq (c : Dev nD) : signalled c = hops.map (peer c) := by
  unfold signalled
  simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq]
  rfl
set_option maxRecDepth 4000 in
theorem targets_eq (c : Dev nD) : targets c = hops.map (peer c) := by
  unfold targets
  simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]
  rfl

/-! ## The program -/

abbrev Pg (α : Type) := Prog (TpuEff nD τ sig (Elt F) Λ₀ .tc) α

/-- One step run at each element of a list, in order. -/
def runAll {I : Type} (step : I → Pg (F := F) PUnit) : List I → Pg (F := F) PUnit
  | [] => pure ⟨⟩
  | i :: l => step i >>= fun _ => runAll step l

def signalStep (d : Dev nD) : Pg (F := F) PUnit := semSignalWord d barS 1#32

/-- Slab `j` is loaded (the value is not used) and stored. -/
def slabStep (v : FVec F S128x2048 .f32) (j : Fin 32) : Pg (F := F) PUnit :=
  Prog.lift (.load cM (slabR j).toLoadRect (View.loadsAt_vmem h_S1x128x64)) >>= fun _ =>
  Prog.lift (.store cM (slabR j) (colPay v j) Finset.univ (View.stores_vmem_bits_univ h_S1x128x64 rfl) (.inl rfl))

def sendStep (c : Dev nD) (p : Fin 31 × Dev nD) : Pg (F := F) PUnit :=
  Prog.lift (.enqueueDma (slabM c p.1) (.remote (Dev.tc p.2) (rowsM c) (.dma (sendS p.1))) (.dma (recvS p.1))
    ((View.wordExact_bits rfl).reshape _ _) (View.wordExact_bits rfl) ⟨⟨rfl, Or.inl rfl⟩, trivial⟩)

def waitStep (c : Dev nD) (h : Fin 31) : Pg (F := F) PUnit :=
  Prog.lift (.waitDma2 (sendS h) (rowsM c) (slabM c h) (View.wordExact_bits rfl) ((View.wordExact_bits rfl).reshape _ _)) >>= fun _ =>
  Prog.lift (.waitDma2 (recvS h) (slabM c h) (rowsM c) ((View.wordExact_bits rfl).reshape _ _) (View.wordExact_bits rfl))

/-- The device's own slab, stored into its own rows of the result. -/
def ownStep (c : Dev nD) : Pg (F := F) PUnit :=
  Prog.lift (.load cM (Rect.unit (s := S32x128x64) (k0_off1 c) S1x128x64.size (k0_off1_inb c)).toLoadRect (View.loadsAt_vmem h_S1x128x64)) >>= fun v =>
  Prog.lift (.load oM (Rect.unit (s := S4096x64) (k0_off2 c) S128x64.size (k0_off2_inb c)).toLoadRect (View.loadsAt_vmem h_S128x64)) >>= fun _ =>
  Prog.lift (.store oM (Rect.unit (s := S4096x64) (k0_off2 c) S128x64.size (k0_off2_inb c)) (ownPay v) Finset.univ (View.stores_vmem_bits_univ h_S128x64 rfl) (.inl rfl))

/-- The product is formed from the four arguments. -/
def productStep : Pg (F := F) (FVec F S128x2048 .f32) :=
  Prog.lift (.load xM (Rect.unit (s := S128x4096) ![0, 0] S128x4096.size inb_S128x4096_S128x4096_0_0).toLoadRect (View.loadsAt_vmem h_S128x4096)) >>= fun x =>
  Prog.lift (.load wM (Rect.unit (s := S4096x2048) ![0, 0] S4096x2048.size inb_S4096x2048_S4096x2048_0_0).toLoadRect (View.loadsAt_vmem h_S4096x2048)) >>= fun w =>
  smemLoad sxM (Rect.unit (s := S1) ![0] S1.size inb_S1_S1_0) numel1_S1 rfl >>= fun sx =>
  smemLoad swM (Rect.unit (s := S1) ![0] S1.size inb_S1_S1_0) numel1_S1 rfl >>= fun sw =>
  pure (k0_pay1 x w sx sw)

def restFrom (c : Dev nD) (v : FVec F S128x2048 .f32) : Pg (F := F) PUnit :=
  runAll (slabStep v) cols >>= fun _ =>
  ownStep c >>= fun _ =>
  semWaitWord barS 31#32 >>= fun _ =>
  runAll (sendStep c) (hops.zip (targets c)) >>= fun _ =>
  runAll (waitStep c) hops

/-- The body on device `c`. -/
def bodyFrom (c : Dev nD) : Pg (F := F) PUnit :=
  runAll signalStep (signalled c) >>= fun _ => productStep >>= fun v => restFrom c v

set_option maxRecDepth 65536 in
/-- The printed body reads its device and is this program. -/
theorem body_eq : cc0_body (F := F) xM (Memref.isWhole_whole _) wM (Memref.isWhole_whole _) sxM (Memref.isWhole_whole _) swM (Memref.isWhole_whole _)
      oM (Memref.isWhole_whole _) cM (Memref.isWhole_whole _) cc0_scratch1 cc0_scratch2
    = (Prog.lift .deviceId >>= fun c => bodyFrom c) := by
  rw [cc0_body_eq_skeleton]
  rfl

end Cert.A2A

end
-- ==== Proof.Contents.lean ====
/-
What the scratch buffer and the result's staging buffer hold, and how each is cut into its 32 parts: the scratch
buffer into slabs, one for each device the product's columns belong to, and the result into blocks of 128 rows, one
for each device that computes them.
-/
module

public import proofs.«01_k».proof.Proof.Program
public import Idealize.ShloMosaic.Lib.Ring
public import Idealize.ShloMosaic.Lib.ViewIndex
public import Idealize.ShloMosaic.Lib.Pipeline.ValueKit.Geometry

@[expose] public section

noncomputable section

namespace Cert.A2A

open Cert.KernelIdeal Cert.KernelIdeal.Gen
open Idealize.ShloMosaic Idealize.SL.Sem
open Idealize.ShloMosaic.TcCoe

variable {F : FTy → Type} [FloatOps F]

/-! ## Devices as numbers -/

theorem peer_val (c : Dev nD) (h : Fin 31) : (peer c h).val = (c.val + (h.val + 1)) % 32 := rfl

theorem dev_lt (c : Dev nD) : c.val < 32 := c.isLt

theorem peer_ne (c : Dev nD) (h : Fin 31) : peer c h ≠ c := fun e => by
  have := congrArg Fin.val e; rw [peer_val] at this; have := dev_lt c; have := h.isLt; omega

theorem peer_injective (c : Dev nD) : Function.Injective (peer c) := fun a b e => by
  have := congrArg Fin.val e; rw [peer_val, peer_val] at this
  have := dev_lt c; have := a.isLt; have := b.isLt; exact Fin.ext (by omega)

/-- The hop that leads back. -/
theorem peer_rev (c : Dev nD) (h : Fin 31) : peer (peer c h) h.rev = c :=
  Fin.ext (by rw [peer_val, peer_val, Fin.val_rev]; have := dev_lt c; have := h.isLt; omega)

theorem peer_rev' (c : Dev nD) (h : Fin 31) : peer (peer c h.rev) h = c := by
  have := peer_rev c h.rev; rwa [Fin.rev_rev] at this

/-- Every device is the given one or one of its peers. -/
theorem eq_or_peer (c d : Dev nD) : d = c ∨ ∃ h, peer c h = d := by
  by_cases e : d = c
  · exact .inl e
  · refine .inr ⟨⟨(d.val + 31 - c.val) % 32, ?_⟩, Fin.ext ?_⟩
    · have := dev_lt c; have := dev_lt d; have : d.val ≠ c.val := fun h => e (Fin.ext h); omega
    · rw [peer_val]; have := dev_lt c; have := dev_lt d; have : d.val ≠ c.val := fun h => e (Fin.ext h); dsimp only; omega

/-! ## The scratch buffer -/

/-- The scratch buffer once the 32 slabs of the product `v` are stored. -/
def scratchOf (v : FVec F S128x2048 .f32) : (cc0_scratch0 : Ref sig .tc).ty.Contents (Elt F) :=
  fun i => colPay v (i 0) (fun a => ⟨(![0, (i 1).val, (i 2).val] : Fin 3 → Nat) a, by
    match a with
    | ⟨0, _⟩ => exact Nat.one_pos
    | ⟨1, _⟩ => exact (i 1).isLt
    | ⟨2, _⟩ => exact (i 2).isLt⟩)

/-- The block of 128 rows and 64 columns that device `j` gets of the product `v`. -/
def blockPay (v : FVec F S128x2048 .f32) (j : Fin 32) : FVec F S128x64 .f32 := ownPay (colPay v j)

/-- The scratch buffer's elements under slab `j`. -/
abbrev slabSet (j : Fin 32) : Finset (cc0_scratch0 : Ref sig .tc).ty.shape.Idx := (slabR j).set

theorem mem_slabSet {j : Fin 32} {i : (cc0_scratch0 : Ref sig .tc).ty.shape.Idx} : i ∈ slabSet j ↔ i 0 = j := by
  unfold slabSet slabR
  rw [Rect.mem_set_unit]
  constructor
  · intro h
    have := h 0
    exact Fin.ext (by change j.val ≤ (i 0).val ∧ (i 0).val < j.val + 1 at this; omega)
  · rintro rfl a
    match a with
    | ⟨0, _⟩ => exact ⟨le_rfl, Nat.lt_succ_self _⟩
    | ⟨1, _⟩ => exact ⟨Nat.zero_le _, by rw [show (![(i 0).val, 0, 0] : Fin 3 → Nat) ⟨1, _⟩ = 0 from rfl, Nat.zero_add]; exact (i 1).isLt⟩
    | ⟨2, _⟩ => exact ⟨Nat.zero_le _, by rw [show (![(i 0).val, 0, 0] : Fin 3 → Nat) ⟨2, _⟩ = 0 from rfl, Nat.zero_add]; exact (i 2).isLt⟩

theorem slabSet_disjoint {j j' : Fin 32} (h : j ≠ j') : Disjoint (slabSet j) (slabSet j') :=
  Finset.disjoint_left.mpr fun _ h₁ h₂ => h ((mem_slabSet.mp h₁).symm.trans (mem_slabSet.mp h₂))

theorem slabSet_cover : (Finset.univ : Finset (Fin 32)).biUnion slabSet = Finset.univ :=
  Finset.eq_univ_of_forall fun i => Finset.mem_biUnion.mpr ⟨i 0, Finset.mem_univ _, mem_slabSet.mpr rfl⟩

/-- The rectangle the copies and the own rows name is the slab's, whatever spells its offsets. -/
theorem rect_slab {off : Fin 3 → Nat} {j : Fin 32} (hoff : off = ![j.val, 0, 0]) (inb : ∀ a, off a + S1x128x64.size a ≤ S32x128x64.size a) :
    (Rect.unit (s := S32x128x64) off S1x128x64.size inb) = slabR j := by subst hoff; rfl

theorem slab_off (c : Dev nD) (h : Fin 31) : k0_off4 c (BitVec.ofNat 32 (1 + h.val)) = ![(peer c h).val, 0, 0] := by
  rw [k0_off4_eq, peer_val, Nat.add_assoc]

/-- The elements of a hop's slab. -/
theorem slabM_set (c : Dev nD) (h : Fin 31) : (slabM c h).view.set = slabSet (peer c h) := by
  show ((cM.view.slice _).reshape S128x64 _).set = _
  rw [View.set_reshape]
  show ((View.whole cc0_scratch0).slice _).set = _
  rw [View.set_slice_whole, rect_slab (slab_off c h)]

/-- A load of slab `j` of the filled scratch buffer reads the slab stored. -/
theorem read_slab {off : Fin 3 → Nat} {j : Fin 32} (hoff : off = ![j.val, 0, 0]) (inb : ∀ a, off a + S1x128x64.size a ≤ S32x128x64.size a)
    (v : FVec F S128x2048 .f32) :
    cM.view.readAt (Elt F) (Rect.unit (s := S32x128x64) off S1x128x64.size inb).toLoadRect (scratchOf v) = colPay v j := by
  subst hoff
  funext x
  have h0 : (x 0).val = 0 := Nat.lt_one_iff.mp (x 0).isLt
  show scratchOf v ((slabR j).emb x) = colPay v j x
  unfold scratchOf
  have e0 : ((slabR j).emb x) 0 = j := Fin.ext (by rw [Rect.emb_apply]; show j.val + 1 * (x 0).val = _; omega)
  rw [e0]
  refine congrArg (colPay v j) (Shape.idx3_ext ?_ ?_ ?_)
  · exact h0.symm
  · show (((slabR j).emb x) 1).val = _; rw [Rect.emb_apply]; show 0 + 1 * (x 1).val = _; omega
  · show (((slabR j).emb x) 2).val = _; rw [Rect.emb_apply]; show 0 + 1 * (x 2).val = _; omega

/-- What a copy of the hop's slab reads. -/
theorem slabM_read (c : Dev nD) (h : Fin 31) (v : FVec F S128x2048 .f32) :
    (slabM c h).view.read (Elt F) (scratchOf v) = blockPay v (peer c h) := by
  show shapeCast S128x64 (cM.view.readAt (Elt F) (Rect.unit (s := S32x128x64) _ S1x128x64.size (k0_off4_inb c h)).toLoadRect (scratchOf v)) _ = _
  rw [read_slab (slab_off c h)]
  rfl

/-- Storing slab `j`: the elements under it hold the slab, the others what they held. -/
theorem store_slab (j : Fin 32) (v : FVec F S128x2048 .f32) (f : (cc0_scratch0 : Ref sig .tc).ty.Contents (Elt F))
    (i : (cc0_scratch0 : Ref sig .tc).ty.shape.Idx) :
    (cM.access (slabR j) : View sig .tc _ _ _).write (Elt F) f (colPay v j) Finset.univ i = if (i 0).val = j.val then scratchOf v i else f i := by
  by_cases h : (i 0).val = j.val
  · rw [if_pos h]
    have hi : i ∈ ((View.whole cc0_scratch0).slice (slabR j)).set := by rw [View.set_slice_whole]; exact mem_slabSet.mpr (Fin.ext h)
    obtain ⟨x, rfl⟩ := View.exists_of_mem_set_slice hi
    rw [show (cM.access (slabR j) : View sig .tc _ _ _).write (Elt F) f (colPay v j) Finset.univ ((View.whole cc0_scratch0).emb ((slabR j).emb x)) = colPay v j x from
      View.write_emb_of_mem (v := (cM.access (slabR j) : View sig .tc _ _ _)) f (colPay v j) (Finset.mem_univ x)]
    exact (congrFun (read_slab (F := F) (off := ![j.val, 0, 0]) rfl (inb_slab j) v) x).symm
  · rw [if_neg h]
    refine View.write_of_not_mem _ _ _ fun hm => h ?_
    have hm' : i ∈ ((View.whole cc0_scratch0).slice (slabR j)).set := hm
    rw [View.set_slice_whole] at hm'
    exact congrArg Fin.val (mem_slabSet.mp hm')

/-! ## The result -/

/-- The result on device `c` when device `s` computes the product `v s`: rows `128 s` to `128 s + 127` are device `c`'s
    block of it. -/
def resultOf (v : Dev nD → FVec F S128x2048 .f32) (c : Dev nD) : (cc0_stg4_0 : Ref sig .tc).ty.Contents (Elt F) :=
  fun i => blockPay (v ⟨(i 0).val / 128, by have : (i 0).val < 4096 := (i 0).isLt; show _ < 32; omega⟩) c
    (fun a => ⟨(![(i 0).val % 128, (i 1).val] : Fin 2 → Nat) a, by
      match a with
      | ⟨0, _⟩ => exact Nat.mod_lt _ (by decide)
      | ⟨1, _⟩ => exact (i 1).isLt⟩)

theorem inb_rows : ∀ (s : Dev nD) (a : Fin 2), (![128 * s.val, 0] : Fin 2 → Nat) a + S128x64.size a ≤ S4096x64.size a := by decide
/-- The rows of device `s`. -/
abbrev rowsR (s : Dev nD) : Rect S4096x64 := Rect.unit (s := S4096x64) ![128 * s.val, 0] S128x64.size (inb_rows s)
abbrev rowSet (s : Dev nD) : Finset (cc0_stg4_0 : Ref sig .tc).ty.shape.Idx := (rowsR s).set

theorem mem_rowSet {s : Dev nD} {i : (cc0_stg4_0 : Ref sig .tc).ty.shape.Idx} : i ∈ rowSet s ↔ (i 0).val / 128 = s.val := by
  unfold rowSet rowsR
  rw [Rect.mem_set_unit]
  constructor
  · intro h
    have := h 0
    change 128 * s.val ≤ (i 0).val ∧ (i 0).val < 128 * s.val + 128 at this; omega
  · intro e a
    match a with
    | ⟨0, _⟩ => show 128 * s.val ≤ (i 0).val ∧ (i 0).val < 128 * s.val + 128; omega
    | ⟨1, _⟩ => exact ⟨Nat.zero_le _, by rw [show (![128 * s.val, 0] : Fin 2 → Nat) ⟨1, _⟩ = 0 from rfl, Nat.zero_add]; exact (i 1).isLt⟩

theorem rowSet_disjoint {s s' : Dev nD} (h : s ≠ s') : Disjoint (rowSet s) (rowSet s') :=
  Finset.disjoint_left.mpr fun _ h₁ h₂ => h (Fin.ext ((mem_rowSet.mp h₁).symm.trans (mem_rowSet.mp h₂)))

theorem rowSet_cover : (Finset.univ : Finset (Dev nD)).biUnion rowSet = Finset.univ :=
  Finset.eq_univ_of_forall fun i => Finset.mem_biUnion.mpr
    ⟨⟨(i 0).val / 128, by have : (i 0).val < 4096 := (i 0).isLt; show _ < 32; omega⟩, Finset.mem_univ _, mem_rowSet.mpr rfl⟩

theorem rect_rows {off : Fin 2 → Nat} {s : Dev nD} (hoff : off = ![128 * s.val, 0]) (inb : ∀ a, off a + S128x64.size a ≤ S4096x64.size a) :
    (Rect.unit (s := S4096x64) off S128x64.size inb) = rowsR s := by subst hoff; rfl

theorem rowsM_set (c : Dev nD) : (rowsM c).view.set = rowSet c := by
  show ((View.whole cc0_stg4_0).slice _).set = _
  rw [View.set_slice_whole, rect_rows (k0_off3_eq c)]

/-- Device `s`'s block written into its rows leaves the result's contents there. -/
theorem write_rows {off : Fin 2 → Nat} {s : Dev nD} (hoff : off = ![128 * s.val, 0]) (inb : ∀ a, off a + S128x64.size a ≤ S4096x64.size a)
    (v : Dev nD → FVec F S128x2048 .f32) (c : Dev nD) (f : (cc0_stg4_0 : Ref sig .tc).ty.Contents (Elt F))
    (i : (cc0_stg4_0 : Ref sig .tc).ty.shape.Idx) (hi : i ∈ rowSet s) :
    ((View.whole cc0_stg4_0).slice (Rect.unit (s := S4096x64) off S128x64.size inb)).write (Elt F) f (blockPay (v s) c) Finset.univ i = resultOf v c i := by
  subst hoff
  have hi' : i ∈ ((View.whole cc0_stg4_0).slice (rowsR s)).set := by rw [View.set_slice_whole]; exact hi
  obtain ⟨x, rfl⟩ := View.exists_of_mem_set_slice hi'
  rw [show ((View.whole cc0_stg4_0).slice (rowsR s)).write (Elt F) f (blockPay (v s) c) Finset.univ ((View.whole cc0_stg4_0).emb ((rowsR s).emb x)) = blockPay (v s) c x from
    View.write_emb_of_mem (v := (View.whole cc0_stg4_0).slice (rowsR s)) f (blockPay (v s) c) (Finset.mem_univ x)]
  have e0 : (((rowsR s).emb x) 0).val = 128 * s.val + (x 0).val := by rw [Rect.emb_apply]; show 128 * s.val + 1 * (x 0).val = _; omega
  have e1 : (((rowsR s).emb x) 1).val = (x 1).val := by rw [Rect.emb_apply]; show 0 + 1 * (x 1).val = _; omega
  have hx : (x 0).val < 128 := (x 0).isLt
  show _ = resultOf v c ((rowsR s).emb x)
  unfold resultOf
  have es : (⟨(((rowsR s).emb x) 0).val / 128, by have : (((rowsR s).emb x) 0).val < 4096 := (((rowsR s).emb x) 0).isLt; show _ < 32; omega⟩ : Dev nD) = s :=
    Fin.ext (by show (((rowsR s).emb x) 0).val / 128 = s.val; omega)
  rw [es]
  refine congrArg (blockPay (v s) c) (funext fun a => Fin.ext ?_)
  match a with
  | ⟨0, _⟩ => show (x 0).val = (((rowsR s).emb x) 0).val % 128; omega
  | ⟨1, _⟩ => exact e1.symm

end Cert.A2A

end
-- ==== Proof.Protocol.lean ====
/-
The protocol of the 63 semaphores of a device: its barrier semaphore, and for each hop a send and a receive
semaphore. Every one of them has a single round.

* barrier: the peer that reaches the device by hop `h` signals one unit and hands over the device's rows of its own
  result buffer, whatever they hold;
* send, hop `h`: the device's own copy credits it and hands the slab back;
* receive, hop `h`: the copy of the peer that reaches the device by hop `h` credits it and hands over that peer's rows
  of the device's result buffer, filled.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

abbrev barCell (c : Dev nD) : GSem nD τ sig := ((c : Thread nD τ), .reg barS)
abbrev sendCell (c : Dev nD) (h : Fin 31) : GSem nD τ sig := ((c : Thread nD τ), .dma (sendS h))
abbrev recvCell (c : Dev nD) (h : Fin 31) : GSem nD τ sig := ((c : Thread nD τ), .dma (recvS h))

theorem sendS_val : ∀ h : Fin 31, (sendS h).val = 5 + h.val := by decide
theorem recvS_val : ∀ h : Fin 31, (recvS h).val = 36 + h.val := by decide

/-- The semaphores the call brings with it: the send and the receive one of each hop. -/
abbrev osem : Fin 31 ⊕ Fin 31 → SemLoc sig := Sum.elim (fun h => .dma (sendS h)) (fun h => .dma (recvS h))
/-- All the semaphores of the protocol: the barrier one too. -/
abbrev Cell : Type := Unit ⊕ (Fin 31 ⊕ Fin 31)
abbrev csem : Cell → SemLoc sig := Sum.elim (fun _ => .reg barS) osem
abbrev kcell (ck : Dev nD × Cell) : GSem nD τ sig := ((ck.1 : Thread nD τ), csem ck.2)

/-- What a copy credits. -/
abbrev N : ℕ := (rowsM 0).view.dmaCredit
theorem N_pos : 0 < N := View.dmaCredit_pos _ (by decide)
theorem N_slab (c : Dev nD) (h : Fin 31) : (slabM c h).view.dmaCredit = N := rfl
theorem N_rows (c : Dev nD) : (rowsM c).view.dmaCredit = N := rfl

/-! ## What is handed over -/

/-- Device `d`'s rows of device `c`'s result buffer, at contents `f`. -/
def rowPts (d c : Dev nD) (f : Buf (Elt F) ((c : Thread nD τ).loc cc0_stg4_0)) : sProp 𝕄 :=
  ((c : Thread nD τ).loc cc0_stg4_0) ↦[rowSet d]{fullShare} f
/-- Slab `j` of device `c`'s scratch buffer, at contents `f`. -/
def slabPts (j : Fin 32) (c : Dev nD) (f : Buf (Elt F) ((c : Thread nD τ).loc cc0_scratch0)) : sProp 𝕄 :=
  ((c : Thread nD τ).loc cc0_scratch0) ↦[slabSet j]{fullShare} f

omit [FloatOps F] in
instance rowPts_storable (d c : Dev nD) (f) : BI.Storable (upEmb : UEmb _ 𝕄) (rowPts (F := F) d c f) := by unfold rowPts; infer_instance
omit [FloatOps F] in
instance slabPts_storable (j : Fin 32) (c : Dev nD) (f) : BI.Storable (upEmb : UEmb _ 𝕄) (slabPts (F := F) j c f) := by unfold slabPts; infer_instance

/-- The slab a device copies at a hop is the one numbered by the device it goes to. -/
abbrev slabAt (c : Dev nD) (h : Fin 31) : Fin 32 := peer c h

variable (V : Dev nD → FVec F S128x2048 .f32)

def barPay (c : Dev nD) (h : Fin 31) : sProp 𝕄 := iprop(∃ f, rowPts c (peer c h.rev) f)
def sendPay (c : Dev nD) (h : Fin 31) : sProp 𝕄 := slabPts (slabAt c h) c (scratchOf (V c))
def recvPay (c : Dev nD) (h : Fin 31) : sProp 𝕄 := rowPts (peer c h.rev) c (resultOf V c)

/-! ## The schedule -/

/-- The duties, the amounts and what is handed over, semaphore by semaphore. -/
def sched : Rounds.Schedule (GSem nD τ sig) (Fin 31) 𝕄 where
  duties g r := if r = 0 then (match g.2 with | .reg _ => Finset.univ | .dma q => if 5 ≤ q.val then {0} else ∅) else ∅
  unitless _ := False
  amount g _ _ := match g.2 with | .reg _ => 1 | .dma _ => N
  payload g _ d := match g.2 with
    | .reg _ => barPay g.1.1 d
    | .dma q => if q.val < 36 then sendPay V g.1.1 ⟨(q.val - 5) % 31, Nat.mod_lt _ (by decide)⟩
        else recvPay V g.1.1 ⟨(q.val - 36) % 31, Nat.mod_lt _ (by decide)⟩
  amount_pos g _ _ _ := by
    rcases g with ⟨_, _ | _⟩
    · exact Nat.one_pos
    · exact N_pos

instance sched_payload_storable (g : GSem nD τ sig) (r : ℕ) (d : Fin 31) :
    BI.Storable (upEmb : UEmb _ 𝕄) ((sched (F := F) V).payload g r d) := by
  rcases g with ⟨t, s | q⟩
  · show BI.Storable upEmb (barPay t.1 d); unfold barPay; infer_instance
  · show BI.Storable upEmb (if q.val < 36 then _ else _)
    unfold sendPay recvPay
    split <;> infer_instance

section Tables
variable (c : Dev nD) (h : Fin 31)

omit [FloatOps F] in
theorem duties_bar : (sched (F := F) V).duties (barCell c) 0 = Finset.univ := rfl
omit [FloatOps F] in
theorem duties_send : (sched (F := F) V).duties (sendCell c h) 0 = {0} := by
  show (if 5 ≤ (sendS h).val then _ else _) = _; rw [sendS_val, if_pos (Nat.le_add_right _ _)]
omit [FloatOps F] in
theorem duties_recv : (sched (F := F) V).duties (recvCell c h) 0 = {0} := by
  show (if 5 ≤ (recvS h).val then _ else _) = _; rw [recvS_val, if_pos (by omega)]
omit [FloatOps F] in
theorem duties_later (g : GSem nD τ sig) : ∀ r, 1 ≤ r → (sched (F := F) V).duties g r = ∅ :=
  fun r hr => if_neg (by omega)

omit [FloatOps F] in
theorem expect_bar : (sched (F := F) V).expect (barCell c) 0 = 31 := by
  unfold Schedule.expect Schedule.amountOf
  rw [duties_bar, Finset.sum_congr rfl fun d _ => show (sched (F := F) V).amount (barCell c) 0 d = 1 from rfl]
  rfl
omit [FloatOps F] in
theorem expect_send : (sched (F := F) V).expect (sendCell c h) 0 = N := by
  unfold Schedule.expect Schedule.amountOf; rw [duties_send, Finset.sum_singleton]; rfl
omit [FloatOps F] in
theorem expect_recv : (sched (F := F) V).expect (recvCell c h) 0 = N := by
  unfold Schedule.expect Schedule.amountOf; rw [duties_recv, Finset.sum_singleton]; rfl

omit [FloatOps F] in
theorem payload_bar : (sched (F := F) V).payload (barCell c) 0 h = barPay c h := rfl
omit [FloatOps F] in
theorem payload_send (d : Fin 31) : (sched (F := F) V).payload (sendCell c h) 0 d = sendPay V c h := by
  show (if (sendS h).val < 36 then sendPay V c ⟨((sendS h).val - 5) % 31, _⟩ else _) = _
  have hv := sendS_val h
  rw [if_pos (by omega)]
  exact congrArg (sendPay V c) (Fin.ext (by show ((sendS h).val - 5) % 31 = h.val; omega))
omit [FloatOps F] in
theorem payload_recv (d : Fin 31) : (sched (F := F) V).payload (recvCell c h) 0 d = recvPay V c h := by
  show (if (recvS h).val < 36 then _ else recvPay V c ⟨((recvS h).val - 36) % 31, _⟩) = _
  have hv := recvS_val h
  rw [if_neg (by omega)]
  exact congrArg (recvPay V c) (Fin.ext (by show ((recvS h).val - 36) % 31 = h.val; omega))

/-- All that a device's barrier hands it: its rows on each of its peers, named by the hop that leads there. -/
theorem rest_bar : bigSep ((sched (F := F) V).duties (barCell c) 0 \ ∅) (fun d => (sched (F := F) V).payload (barCell c) 0 d)
    = bigSep Finset.univ fun h : Fin 31 => iprop(∃ f, rowPts c (peer c h) f) := by
  rw [Finset.sdiff_empty, duties_bar, bigSep_univ_equiv Fin.revPerm]
  refine bigSep_congr fun h _ => ?_
  show iprop(∃ f, rowPts c (peer c h.rev.rev) f) = _
  rw [Fin.rev_rev]
omit [FloatOps F] in
theorem rest_send : bigSep ((sched (F := F) V).duties (sendCell c h) 0 \ ∅) (fun d => (sched (F := F) V).payload (sendCell c h) 0 d) = sendPay V c h := by
  rw [Finset.sdiff_empty, duties_send, bigSep_singleton, payload_send]
omit [FloatOps F] in
theorem rest_recv : bigSep ((sched (F := F) V).duties (recvCell c h) 0 \ ∅) (fun d => (sched (F := F) V).payload (recvCell c h) 0 d) = recvPay V c h := by
  rw [Finset.sdiff_empty, duties_recv, bigSep_singleton, payload_recv]

end Tables

/-! ## What each device owes; the levels -/

/-- The barrier units a device owes the peers of the hops listed, -/
def dueBar (c : Dev nD) (l : List (Fin 31)) : CellTallies nD τ sig Unit := (l.map fun h => tallyAt (barCell (peer c h)) () 1).sum
/-- and the credits of its copies to them. -/
def dueRecv (c : Dev nD) (l : List (Fin 31)) : CellTallies nD τ sig Unit := (l.map fun h => tallyAt (recvCell (peer c h) h) () N).sum

def O₀ (c : Dev nD) : CellTallies nD τ sig Unit := dueRecv c hops + dueBar c hops

theorem dueBar_cons (c : Dev nD) (h : Fin 31) (l : List (Fin 31)) : dueBar c (h :: l) = dueBar c l + tallyAt (barCell (peer c h)) () 1 := by
  unfold dueBar; rw [List.map_cons, List.sum_cons, add_comm]
theorem dueRecv_cons (c : Dev nD) (h : Fin 31) (l : List (Fin 31)) : dueRecv c (h :: l) = dueRecv c l + tallyAt (recvCell (peer c h) h) () N := by
  unfold dueRecv; rw [List.map_cons, List.sum_cons, add_comm]

def L (g : GSem nD τ sig) : Finset Unit := if g.1.2 = .tc then {()} else ∅
/-- The barrier at 1, the receive semaphores at 2, everything else at 0. -/
def lv (g : GSem nD τ sig) (_ : Unit) : ℕ := match g.2 with | .reg _ => 1 | .dma q => if q.val < 36 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (h : Fin 31) : lv (recvCell c h) () = 2 := by
  show (if (recvS h).val < 36 then 0 else 2) = 2; rw [recvS_val, if_neg (by omega)]

/-- A device owes only where a listed sum of one-cell dues does. -/
theorem dues_pos {I : Type} (f : I → GSem nD τ sig) (n : ℕ) {g : GSem nD τ sig} {u : Unit} :
    ∀ l : List I, 0 < (l.map fun i => (tallyAt (f i) () n : CellTallies nD τ sig Unit)).sum g u → ∃ i ∈ l, g = f i
  | [], h => absurd h (Nat.lt_irrefl 0)
  | i :: l, h => by
    rw [List.map_cons, List.sum_cons, Pi.add_apply, Finsupp.add_apply] at h
    by_cases h0 : 0 < tallyAt (f i) () n g u
    · exact ⟨i, List.mem_cons_self, (Pipeline.tallyAt_pos h0).1⟩
    · rw [Nat.eq_zero_of_not_pos h0, Nat.zero_add] at h
      obtain ⟨j, hj, e⟩ := dues_pos f n l h
      exact ⟨j, List.mem_cons_of_mem _ hj, e⟩

theorem O₀_pos {c : Dev nD} {g : GSem nD τ sig} {u : Unit} (h : 0 < O₀ c g u) :
    (∃ h, g = recvCell (peer c h) h) ∨ ∃ h, g = barCell (peer c h) := by
  unfold O₀ at h
  rw [Pi.add_apply, Finsupp.add_apply] at h
  by_cases h0 : 0 < dueRecv c hops g u
  · obtain ⟨i, _, e⟩ := dues_pos (fun h => recvCell (peer c h) h) N hops h0; exact .inl ⟨i, e⟩
  · obtain ⟨i, _, e⟩ := dues_pos (fun h => barCell (peer c h)) 1 hops (show 0 < dueBar c hops g u by omega); exact .inr ⟨i, e⟩

omit [FloatOps F] in
/-- The pipeline's own waits are below all that is owed. -/
theorem mayWait_stage (c : Dev nD) (q : DmaSem sig) (hq : q.val < 36) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, rfl⟩ | ⟨_, rfl⟩ <;> exact Finset.mem_singleton_self _)
      (fun p hp => by rw [Finset.mem_singleton.mp hp]; exact le_of_eq (if_pos hq))
      (fun g u hg => by
        rcases O₀_pos hg with ⟨_, rfl⟩ | ⟨_, rfl⟩
        · rw [lv_recv]; decide
        · rw [lv_bar]; decide)
  · rw [MayWait_zero]; iintro -; iempintro

omit [FloatOps F] in
/-- At its barrier a device owes the credits of its copies only. -/
theorem mayWait_bar (c : Dev nD) : (levAts L lv : sProp 𝕄) ⊢ MayWait (c : Thread nD τ) (.reg barS) () (dueRecv c hops) :=
  MayOwe.of_cut (L := L) (lev := lv) 1 (fun p hp => by rw [Finset.mem_singleton.mp hp, L_tc]; exact Finset.mem_singleton_self _)
    (fun g u hg => by obtain ⟨_, _, rfl⟩ := dues_pos (fun h => recvCell (peer c h) h) N hops hg; exact Finset.mem_singleton_self _)
    (fun p hp => by rw [Finset.mem_singleton.mp hp]; exact le_of_eq (lv_bar c))
    (fun g u hg => by obtain ⟨_, _, rfl⟩ := dues_pos (fun h => recvCell (peer c h) h) N hops hg; rw [lv_recv]; decide)

/-! ### The credits dealt at launch -/

theorem hops_nodup : hops.Nodup := by decide
theorem hops_univ : (Finset.univ : Finset (Fin 31)) = hops.toFinset := by decide

theorem sum_hops {M : Type} [AddCommMonoid M] (f : Fin 31 → M) : (hops.map f).sum = ∑ h, f h := by
  rw [hops_univ, List.sum_toFinset _ hops_nodup]

omit [FloatOps F] in
theorem bigSep_hops (Φ : Fin 31 → sProp 𝕄) : bigSep Finset.univ Φ = bigSepL hops Φ := bigSep_univ_eq_bigSepL hops hops_univ hops_nodup Φ

omit [FloatOps F] in
theorem creds (c : Dev nD) :
    (Pipeline.launchCred O₀ c : sProp 𝕄) ⊢ iprop(cred (tallyAt (barCell c) () 31) ∗ bigSep Finset.univ fun h => cred (tallyAt (recvCell c h) () N)) := by
  rw [show O₀ = fun d => (∑ h, tallyAt (recvCell (peer d h) h) () N) + ∑ h, tallyAt (barCell (peer d h)) () 1 from
    funext fun d => by unfold O₀ dueRecv dueBar; rw [sum_hops, sum_hops]]
  rw [Pipeline.launchCred_add, Pipeline.launchCred_sum, Pipeline.launchCred_sum]
  refine (BIClass.sep_mono (bigSep_mono fun h _ => Pipeline.launchCred_tallyAt (.dma (recvS h)) (fun d => peer d h) (fun d => peer d h.rev)
    (fun d => peer_rev' d h) (fun d => peer_rev d h) () N c)
    (bigSep_mono fun h _ => Pipeline.launchCred_tallyAt (.reg barS) (fun d => peer d h) (fun d => peer d h.rev)
    (fun d => peer_rev' d h) (fun d => peer_rev d h) () 1 c)).trans ?_
  rw [← Pipeline.cred_finsetSum (Finset.univ : Finset (Fin 31)) fun _ => tallyAt (barCell c) () 1,
    show (∑ _h : Fin 31, tallyAt (barCell c) () 1 : CellTallies nD τ sig Unit) = tallyAt (barCell c) () 31 from by
      rw [← sum_hops]
      simp only [List.map_cons, List.map_nil, List.sum_cons, List.sum_nil, add_zero, tallyAt_add]]
  iintro ⟨H1, H2⟩
  isplitl [H2]
  · iexact H2
  · iexact H1

end Cert.A2A

end
-- ==== Proof.Run.lean ====
/-
The body of one device, run stretch by stretch. Each stretch repeats one step along a list; one lemma carries a
step's triple along the list, and the rest is the five steps.
-/
module

public import proofs.«01_k».proof.Proof.Protocol

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program of device `c`. -/
abbrev wpD (c : Dev nD) {α : Type} (p : Pg (F := F) α) (Q : α → sProp 𝕄) : sProp 𝕄 :=
  wp frame (wpE (defs₀ (F := F)) 𝒱₀ (c : Thread nD τ) none) Set.univ p Q

/-! ## A step repeated along a list -/

theorem bind_assoc_run {α β γ : Type} (p : Pg (F := F) α) (f : α → Pg (F := F) β) (g : β → Pg (F := F) γ) :
    (p >>= f) >>= g = p >>= fun a => f a >>= g := bind_assoc p f g

/-- A step that uses up `A i`, leaves `B i` and takes the state at `i :: l` to the state at `l`, repeated along a list. -/
theorem wp_runAll {I : Type} (c : Dev nD) (step : I → Pg (F := F) PUnit) (S : List I → sProp 𝕄) (A B : I → sProp 𝕄)
    (hstep : ∀ (i : I) (l : List I) {α : Type} (k : PUnit → Pg (F := F) α) (Q : α → sProp 𝕄),
      iprop(S (i :: l) ∗ A i) ⊢ iprop((iprop(S l ∗ B i) -∗ wpD c (k ⟨⟩) Q) -∗ wpD c (step i >>= k) Q))
    {α : Type} (Q : α → sProp 𝕄) : ∀ (l : List I) (k : PUnit → Pg (F := F) α),
      iprop(S l ∗ bigSepL l A) ⊢ iprop((iprop(S [] ∗ bigSepL l B) -∗ wpD c (k ⟨⟩) Q) -∗ wpD c (runAll step l >>= k) Q)
  | [], k => by
    show _ ⊢ iprop(_ -∗ wpD c (k ⟨⟩) Q)
    iintro ⟨HS, -⟩ Hk
    iapply Hk
    isplitl [HS]
    · iexact HS
    · rw [bigSepL_nil]; iempintro
  | i :: l, k => by
    rw [show runAll step (i :: l) >>= k = step i >>= fun _ => runAll step l >>= k from bind_assoc_run _ _ _, bigSepL_cons', bigSepL_cons']
    iintro ⟨HS, Hi, Hl⟩ Hk
    iapply (hstep i l _ Q) $$ [HS Hi]
    · isplitl [HS] <;> iassumption
    iintro ⟨HS, Hi⟩
    iapply (wp_runAll c step S A B hstep Q l k) $$ [HS Hl]
    · isplitl [HS] <;> iassumption
    iintro ⟨HS, Hl⟩
    iapply Hk
    isplitl [HS]; · iexact HS
    isplitl [Hi] <;> iassumption

/-! ## What every device knows -/

variable (V : Dev nD → FVec F S128x2048 .f32)

/-- The invariants of all the semaphores, under the names `K`, and that each is at its first round. -/
def records (K : Dev nD × Cell → ℕ) : sProp 𝕄 :=
  iprop((bigSep Finset.univ fun ck : Dev nD × Cell => cellInv ER (sched V) (K ck) (kcell ck))
    ∗ bigSep Finset.univ fun ck : Dev nD × Cell => reached ER (kcell ck) 0)

instance records_persistent (K : Dev nD × Cell → ℕ) : BI.Persistent (records V K) := by unfold records; infer_instance

theorem inv_at (K : Dev nD × Cell → ℕ) (ck : Dev nD × Cell) : records V K ⊢ cellInv ER (sched V) (K ck) (kcell ck) := by
  unfold records; iintro ⟨H, -⟩
  iapply (show (bigSep Finset.univ fun ck : Dev nD × Cell => (cellInv ER (sched V) (K ck) (kcell ck) : sProp 𝕄)) ⊢ cellInv ER (sched V) (K ck) (kcell ck) from
    bigSep_elim (Finset.mem_univ ck)) $$ H
theorem reached_at (K : Dev nD × Cell → ℕ) (ck : Dev nD × Cell) : records V K ⊢ reached ER (kcell ck) 0 := by
  unfold records; iintro ⟨-, H⟩
  iapply (show (bigSep Finset.univ fun ck : Dev nD × Cell => (reached ER (kcell ck) 0 : sProp 𝕄)) ⊢ reached ER (kcell ck) 0 from bigSep_elim (Finset.mem_univ ck)) $$ H

abbrev kBar : Cell := .inl ()
abbrev kSend (h : Fin 31) : Cell := .inr (.inl h)
abbrev kRecv (h : Fin 31) : Cell := .inr (.inr h)

variable (K : Dev nD × Cell → ℕ) (c : Dev nD)

/-! ## The five steps -/

/-- One signal of the handshake, handing over the peer's rows of the device's own result buffer. -/
theorem wp_signalStep (W : Waits sig Unit) (h : Fin 31) (l : List (Fin 31)) {α : Type} (k : PUnit → Pg (F := F) α) (Q : α → sProp 𝕄) :
    iprop((records V K ∗ owes (c : Thread nD τ) (dueRecv c hops + dueBar c (h :: l)) W)
        ∗ dutyTok ER (barCell (peer c h)) 0 h ∗ ∃ f, rowPts (peer c h) c f)
      ⊢ iprop((iprop((records V K ∗ owes (c : Thread nD τ) (dueRecv c hops + dueBar c l) W) ∗ emp) -∗ wpD c (k ⟨⟩) Q)
        -∗ wpD c (signalStep (peer c h) >>= k) Q) := by
  unfold signalStep semSignalWord
  simp only [Prog.lift, Prog.bind_op, Prog.bind_ret, Prog.pure_eq_ret]
  iintro ⟨⟨#HR, HO⟩, Ht, Hp⟩ Hk
  iapply (Rounds.wp_signal 𝒱₀ ER (sched V) (c : Thread nD τ) none (dst := (peer c h : Thread nD τ)) (κ := K (peer c h, kBar))
      (r := 0) (d := h) (by rw [duties_bar]; exact Finset.mem_univ _) (show (1 : ℕ) = _ by decide) () (O₀ := dueRecv c hops + dueBar c (h :: l)) (dueRecv c hops + dueBar c l)
      (by rw [dueBar_cons, ← add_assoc]; rfl)) $$ [HO Ht Hp]
  · isplitr; · iapply (inv_at V K (peer c h, kBar)); iexact HR
    isplitl [HO]; · iexact HO
    isplitl [Ht]; · iexact Ht
    isplitl [Hp]; · rw [payload_bar]; unfold barPay; rw [peer_rev]; iexact Hp
    iapply (reached_at V K (peer c h, kBar)); iexact HR
  iintro HO
  iapply Hk
  isplitl [HO]
  · isplitr; · iexact HR
    iexact HO
  · iempintro

/-- One slab stored: every slab not in the rest of the list is in place. -/
def slabsDone (v : FVec F S128x2048 .f32) (l : List (Fin 32)) : sProp 𝕄 :=
  iprop(∃ f : Buf (Elt F) ((c : Thread nD τ).loc cc0_scratch0), ⌜∀ i, (∀ j ∈ l, (i 0).val ≠ j.val) → f i = scratchOf v i⌝
    ∗ ((c : Thread nD τ).loc cc0_scratch0) ↦{fullShare} f)

theorem wp_slabStep (v : FVec F S128x2048 .f32) (j : Fin 32) (l : List (Fin 32)) {α : Type} (k : PUnit → Pg (F := F) α) (Q : α → sProp 𝕄) :
    iprop(slabsDone c v (j :: l) ∗ emp) ⊢ iprop((iprop(slabsDone c v l ∗ emp) -∗ wpD c (k ⟨⟩) Q) -∗ wpD c (slabStep v j >>= k) Q) := by
  unfold slabStep slabsDone
  simp only [Prog.lift, Prog.bind_op, Prog.bind_ret, Prog.pure_eq_ret]
  iintro ⟨⟨%f, %hf, H⟩, -⟩ Hk
  iapply (wp_load 𝒱₀ (c : Thread nD τ) none Set.univ (m := cM) (Finset.subset_univ _)) $$ H; iintro H
  iapply (wp_store 𝒱₀ (c : Thread nD τ) none Set.univ (m := cM) (r := slabR j) (Mk := Finset.univ) (Finset.subset_univ _)) $$ H; iintro H
  iapply Hk
  isplitl [H]
  · iexists _
    isplitr
    · ipureintro
      intro i hi
      refine (store_slab j v f i).trans ?_
      by_cases e : (i 0).val = j.val
      · rw [if_pos e]
      · rw [if_neg e]
        exact hf i fun j' hj' => by
          rcases List.mem_cons.mp hj' with rfl | hj'
          · exact e
          · exact hi j' hj'
    iexact H
  · iempintro

/-- The device's own rows stored. -/
theorem wp_ownStep (f : Buf (Elt F) ((c : Thread nD τ).loc cc0_stg4_0)) {α : Type} (k : PUnit → Pg (F := F) α) (Q : α → sProp 𝕄) :
    iprop((((c : Thread nD τ).loc cc0_scratch0) ↦{fullShare} scratchOf (V c)) ∗ rowPts c c f)
      ⊢ iprop((iprop((((c : Thread nD τ).loc cc0_scratch0) ↦{fullShare} scratchOf (V c)) ∗ rowPts c c (resultOf V c)) -∗ wpD c (k ⟨⟩) Q)
        -∗ wpD c (ownStep c >>= k) Q) := by
  unfold ownStep rowPts
  simp only [Prog.lift, Prog.bind_op, Prog.bind_ret, Prog.pure_eq_ret]
  iintro ⟨Hs, Ho⟩ Hk
  iapply (wp_load 𝒱₀ (c : Thread nD τ) none Set.univ (m := cM) (Finset.subset_univ _)) $$ Hs; iintro Hs
  rw [read_slab (j := c) (k0_off1_eq c) (k0_off1_inb c) (V c)]
  have hset : ((View.whole cc0_stg4_0).slice (Rect.unit (s := S4096x64) (k0_off2 c) S128x64.size (k0_off2_inb c))).set = rowSet c := by
    rw [View.set_slice_whole, rect_rows (k0_off2_eq c)]
  iapply (wp_load 𝒱₀ (c : Thread nD τ) none Set.univ (m := oM) (S := rowSet c) (by rw [← hset]; exact (View.set_slice _ _).ge)) $$ Ho; iintro Ho
  iapply (wp_store 𝒱₀ (c : Thread nD τ) none Set.univ (m := oM) (r := Rect.unit (s := S4096x64) (k0_off2 c) S128x64.size (k0_off2_inb c))
    (Mk := Finset.univ) (S := rowSet c) (by rw [View.setOn_univ]; exact hset.le)) $$ Ho; iintro Ho
  iapply Hk
  isplitl [Hs]; · iexact Hs
  iapply (Entails.of_eq (pointsTo_congr fun i hi => write_rows (k0_off2_eq c) (k0_off2_inb c) V c f i hi))
  iexact Ho

/-- One remote copy. -/
theorem wp_sendStep (W : Waits sig Unit) (h : Fin 31) (l : List (Fin 31)) {α : Type} (k : PUnit → Pg (F := F) α) (Q : α → sProp 𝕄) :
    iprop((records V K ∗ owes (c : Thread nD τ) (dueRecv c (h :: l)) W)
        ∗ slabPts (slabAt c h) c (scratchOf (V c)) ∗ (∃ f, rowPts c (peer c h) f)
        ∗ dutyTok ER (sendCell c h) 0 0 ∗ dutyTok ER (recvCell (peer c h) h) 0 0)
      ⊢ iprop((iprop((records V K ∗ owes (c : Thread nD τ) (dueRecv c l) W) ∗ cred (tallyAt (sendCell c h) () N)) -∗ wpD c (k ⟨⟩) Q)
        -∗ wpD c (sendStep c (h, peer c h) >>= k) Q) := by
  unfold sendStep slabPts rowPts
  simp only [Prog.lift, Prog.bind_op, Prog.bind_ret, Prog.pure_eq_ret]
  iintro ⟨⟨#HR, HO⟩, Hs, ⟨%f, Hd⟩, Ht, Ht'⟩ Hk
  iapply (Rounds.wp_send_pointsTo 𝒱₀ ER (sched V) (c : Thread nD τ) none (c' := (peer c h : Thread nD τ))
    (src := slabM c h) (dst := rowsM c) (κ₁ := K (c, kSend h)) (κ₂ := K (peer c h, kRecv h))
    (q := fullShare) (fs := scratchOf (V c)) (r₁ := 0) (r₂ := 0) (d₁ := 0) (d₂ := 0) (fd := f)
    (by rw [duties_send]; exact Finset.mem_singleton_self _) (by rw [duties_recv]; exact Finset.mem_singleton_self _)
    () () N rfl rfl rfl (O₀ := dueRecv c (h :: l)) (dueRecv c l) (by rw [dueRecv_cons]) (W := W)
    (by rw [payload_send, slabM_set]; exact .rfl)
    (by
      rw [payload_recv, slabM_read, rowsM_set]; unfold recvPay rowPts; rw [peer_rev]
      exact Entails.of_eq (pointsTo_congr fun i hi => write_rows (k0_off3_eq c) (k0_off3_inb c) V (peer c h) f i hi))) $$ [HO Hs Hd Ht Ht']
  · isplitr; · iapply (inv_at V K (c, kSend h)); iexact HR
    isplitr; · iapply (inv_at V K (peer c h, kRecv h)); iexact HR
    isplitl [Hs]; · rw [slabM_set]; iexact Hs
    isplitl [Hd]; · rw [rowsM_set]; iexact Hd
    isplitl [HO]; · iexact HO
    isplitl [Ht]; · iexact Ht
    isplitr; · iapply (reached_at V K (c, kSend h)); iexact HR
    isplitl [Ht']; · iexact Ht'
    iapply (reached_at V K (peer c h, kRecv h)); iexact HR
  iintro ⟨Hc, HO⟩
  iapply Hk
  isplitl [HO]
  · isplitr; · iexact HR
    iexact HO
  · iexact Hc

/-- One pair of waits: the slab comes back and the peer's rows arrive. -/
theorem wp_waitStep (h : Fin 31) (l : List (Fin 31)) {α : Type} (k : PUnit → Pg (F := F) α) (Q : α → sProp 𝕄) :
    iprop((records V K ∗ ∃ W, owes (c : Thread nD τ) 0 W)
        ∗ (cred (tallyAt (sendCell c h) () N) ∗ cred (tallyAt (recvCell c h) () N)) ∗ atPos ER (sendCell c h) 0 ∅ 0 ∗ atPos ER (recvCell c h) 0 ∅ 0)
      ⊢ iprop((iprop((records V K ∗ ∃ W, owes (c : Thread nD τ) 0 W)
          ∗ (atPos ER (sendCell c h) 1 ∅ 0 ∗ atPos ER (recvCell c h) 1 ∅ 0) ∗ sendPay V c h ∗ recvPay V c h) -∗ wpD c (k ⟨⟩) Q)
        -∗ wpD c (waitStep c h >>= k) Q) := by
  unfold waitStep
  simp only [Prog.lift, Prog.bind_op, Prog.bind_ret, Prog.pure_eq_ret]
  iintro ⟨⟨#HR, ⟨%W, HO⟩⟩, ⟨Hcs, Hcr⟩, Hs, Hr⟩ Hk
  iapply (Rounds.wp_wait_rest_token 𝒱₀ ER (sched V) (c : Thread nD τ) none (κ := K (c, kSend h))
      (wpE_waitDma2_eq 𝒱₀ (c : Thread nD τ) none Set.univ) (Set.mem_univ _) () (O := 0) (W := W) (R := 0) (m := 0) (T := ∅)
      (by rw [Nat.zero_add, expect_send])) $$ [Hcs HO Hs]
  · isplitr; · iapply (inv_at V K (c, kSend h)); iexact HR
    isplitl [Hcs]; · iexact Hcs
    isplitl [HO]; · iexact HO
    isplitr; · rw [MayWait_zero]; iempintro
    iexact Hs
  iintro ⟨HO, Hs, -, Hp⟩
  ihave Hp := (Entails.of_eq (rest_send V c h)) $$ Hp
  iapply (Rounds.wp_wait_rest_token 𝒱₀ ER (sched V) (c : Thread nD τ) none (κ := K (c, kRecv h))
      (wpE_waitDma2_eq 𝒱₀ (c : Thread nD τ) none Set.univ) (Set.mem_univ _) () (O := 0) (R := 0) (m := 0) (T := ∅)
      (by rw [Nat.zero_add, expect_recv])) $$ [Hcr HO Hr]
  · isplitr; · iapply (inv_at V K (c, kRecv h)); iexact HR
    isplitl [Hcr]; · iexact Hcr
    isplitl [HO]; · iexact HO
    isplitr; · rw [MayWait_zero]; iempintro
    iexact Hr
  iintro ⟨HO, Hr, -, Hq⟩
  ihave Hq := (Entails.of_eq (rest_recv V c h)) $$ Hq
  iapply Hk
  isplitl [HO]
  · isplitr; · iexact HR
    iexists _; iexact HO
  isplitl [Hs Hr]
  · isplitl [Hs] <;> iassumption
  isplitl [Hp] <;> iassumption

end Cert.A2A

end
-- ==== Proof.Body.lean ====
/-
The body of one device from what its core holds at the kernel's start to what it holds at the end: the five stretches
put together, the result buffer and the scratch buffer cut into their parts before and put together after.
-/
module

public import proofs.«01_k».proof.Proof.Run
public import proofs.«01_k».proof.Proof.Gen.KernelIdeal.Points

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Parts by device -/

omit [FloatOps F] in
/-- Something for every device is that for `c` and for each of its peers. -/
theorem bigSep_dev (c : Dev nD) (Φ : Dev nD → sProp 𝕄) : bigSep Finset.univ Φ = iprop(Φ c ∗ bigSep Finset.univ fun h => Φ (peer c h)) := by
  have hu : (Finset.univ : Finset (Dev nD)) = insert c (Finset.univ.map ⟨peer c, peer_injective c⟩) :=
    (Finset.eq_univ_of_forall fun d => by
      rcases eq_or_peer c d with rfl | ⟨h, rfl⟩
      · exact Finset.mem_insert_self _ _
      · exact Finset.mem_insert_of_mem (Finset.mem_map_of_mem ⟨peer c, peer_injective c⟩ (Finset.mem_univ h))).symm
  have hc : c ∉ Finset.univ.map ⟨peer c, peer_injective c⟩ := fun hm => by
    obtain ⟨h, _, e⟩ := Finset.mem_map.mp hm; exact peer_ne c h e
  rw [hu, bigSep_insert hc, bigSep_map]
  rfl

theorem rows_parts (c : Dev nD) (f : Buf (Elt F) ((c : Thread nD τ).loc cc0_stg4_0)) :
    (((c : Thread nD τ).loc cc0_stg4_0) ↦{fullShare} f : sProp 𝕄) = iprop(rowPts c c f ∗ bigSep Finset.univ fun h => rowPts (peer c h) c f) := by
  rw [Ring.pointsTo_blocks (ℓ := (c : Thread nD τ).loc cc0_stg4_0) rowSet (fun _ _ h => rowSet_disjoint h) rowSet_cover]
  exact bigSep_dev c fun d => rowPts d c f
theorem slabs_parts (c : Dev nD) (f : Buf (Elt F) ((c : Thread nD τ).loc cc0_scratch0)) :
    (((c : Thread nD τ).loc cc0_scratch0) ↦{fullShare} f : sProp 𝕄) = iprop(slabPts c c f ∗ bigSep Finset.univ fun h => slabPts (slabAt c h) c f) := by
  rw [Ring.pointsTo_blocks (ℓ := (c : Thread nD τ).loc cc0_scratch0) slabSet (fun _ _ h => slabSet_disjoint h) slabSet_cover]
  exact bigSep_dev c fun d => slabPts d c f

theorem recvs_rows (V : Dev nD → FVec F S128x2048 .f32) (c : Dev nD) :
    (bigSep Finset.univ fun h => recvPay V c h : sProp 𝕄) = bigSep Finset.univ fun h => rowPts (peer c h) c (resultOf V c) := by
  rw [bigSep_univ_equiv Fin.revPerm]
  refine bigSep_congr fun h _ => ?_
  show rowPts (peer c h.rev.rev) c _ = _
  rw [Fin.rev_rev]

theorem runAll_map {I J : Type} (step : J → Pg (F := F) PUnit) (g : I → J) : ∀ l : List I, runAll step (l.map g) = runAll (fun i => step (g i)) l
  | [] => rfl
  | i :: l => by show (_ >>= fun _ => runAll step (l.map g)) = _; rw [runAll_map step g l]; rfl

theorem sends_eq (c : Dev nD) : hops.zip (targets c) = hops.map fun h => (h, peer c h) := by
  rw [targets_eq]; rfl

theorem mem_cols : ∀ j : Fin 32, j ∈ cols := by decide

omit [FloatOps F] in
theorem bigSepL_emp {I : Type} : ∀ l : List I, (iprop(emp) : sProp 𝕄) ⊢ bigSepL l fun _ => iprop(emp)
  | [] => .rfl
  | i :: l => by
    rw [bigSepL_cons']
    iintro -
    isplitr
    · iempintro
    · iapply (bigSepL_emp l); iempintro

/-! ## What a device's core holds -/

variable (V : Dev nD → FVec F S128x2048 .f32) (K : Dev nD × Cell → ℕ) (c : Dev nD)

/-- The device's positions at its semaphores and the tokens of the duties it pays. -/
def linear : sProp 𝕄 :=
  iprop((atPos ER (barCell c) 0 ∅ 0 ∗ (bigSep Finset.univ fun h => atPos ER (sendCell c h) 0 ∅ 0) ∗ bigSep Finset.univ fun h => atPos ER (recvCell c h) 0 ∅ 0)
    ∗ (bigSep Finset.univ fun h => dutyTok ER (barCell (peer c h)) 0 h) ∗ (bigSep Finset.univ fun h => dutyTok ER (sendCell c h) 0 0)
    ∗ bigSep Finset.univ fun h => dutyTok ER (recvCell (peer c h) h) 0 0)

/-- Its semaphores, all closed. -/
def closed : sProp 𝕄 :=
  iprop(semVal (barCell c) 0 ∗ (bigSep Finset.univ fun h => semVal (sendCell c h) 0) ∗ bigSep Finset.univ fun h => semVal (recvCell c h) 0)

/-- A family of the device's semaphores, each past its one round, is closed: every counter reads zero. -/
theorem close_all (k : Fin 31 → Cell) :
    iprop(records V K ∗ bigSep Finset.univ fun h => atPos ER (kcell (c, k h)) 1 ∅ 0)
      ⊢ (|={Set.univ}=> bigSep Finset.univ fun h => semVal (kcell (c, k h)) 0 : sProp 𝕄) := by
  refine ((sep_mono_left (BI.bigSep_of_persistent (Finset.univ : Finset (Fin 31)) (records V K))).trans ?_)
  rw [← bigSep_sep']
  refine (bigSep_mono fun h _ => ?_).trans (bigSep_fupd _ _)
  exact (sep_mono_left (inv_at V K (c, k h))).trans
    (Rounds.cell_close ER (sched V) (Set.mem_univ (K (c, k h))) (fun h => h) (R := 1) (duties_later V (kcell (c, k h))))

/-- From where the product is formed to the end. -/
theorem wp_restFrom (f : Buf (Elt F) ((c : Thread nD τ).loc cc0_scratch0)) (g : Buf (Elt F) ((c : Thread nD τ).loc cc0_stg4_0)) (W : Waits sig Unit)
    (Q : PUnit → sProp 𝕄) :
    iprop(records V K ∗ levAts L lv ∗ (((c : Thread nD τ).loc cc0_scratch0) ↦{fullShare} f) ∗ rowPts c c g
        ∗ owes (c : Thread nD τ) (dueRecv c hops) W
        ∗ cred (tallyAt (barCell c) () 31) ∗ (bigSep Finset.univ fun h => cred (tallyAt (recvCell c h) () N))
        ∗ (atPos ER (barCell c) 0 ∅ 0 ∗ (bigSep Finset.univ fun h => atPos ER (sendCell c h) 0 ∅ 0) ∗ bigSep Finset.univ fun h => atPos ER (recvCell c h) 0 ∅ 0)
        ∗ (bigSep Finset.univ fun h => dutyTok ER (sendCell c h) 0 0) ∗ bigSep Finset.univ fun h => dutyTok ER (recvCell (peer c h) h) 0 0)
      ⊢ iprop((iprop((((c : Thread nD τ).loc cc0_scratch0) ↦{fullShare} scratchOf (V c)) ∗ (((c : Thread nD τ).loc cc0_stg4_0) ↦{fullShare} resultOf V c)
            ∗ (∃ W, owes (c : Thread nD τ) 0 W) ∗ closed c) -∗ Q ⟨⟩)
          -∗ wpD c (restFrom c (V c)) Q) := by
  unfold restFrom
  rw [show runAll (waitStep (F := F) c) hops = (runAll (waitStep c) hops >>= fun u => .ret u) from (bind_pure (runAll (waitStep (F := F) c) hops)).symm]
  iintro ⟨#HR, #Hlev, Hs, Hg, HO, HcB, HcV, ⟨HaB, HaS, HaV⟩, HtS, HtV⟩ Hk
  -- the slabs
  iapply (wp_runAll c (slabStep (V c)) (slabsDone c (V c)) (fun _ => iprop(emp)) (fun _ => iprop(emp))
    (fun j l {_} k Q => wp_slabStep c (V c) j l k Q) _ cols) $$ [Hs]
  · isplitl [Hs]
    · unfold slabsDone
      iexists f; isplitr
      · ipureintro
        exact fun i hi => absurd rfl (hi (i 0) (mem_cols _))
      · iexact Hs
    · iapply (bigSepL_emp cols); iempintro
  iintro ⟨Hs, -⟩
  unfold slabsDone
  icases Hs with ⟨%f', %hf', Hs⟩
  have ef : f' = scratchOf (V c) := funext fun i => hf' i fun j hj => absurd hj List.not_mem_nil
  subst ef
  -- the own rows
  iapply (wp_ownStep V c g) $$ [Hs Hg]
  · isplitl [Hs] <;> iassumption
  iintro ⟨Hs, Hg⟩
  -- the wait for the peers
  simp only [semWaitWord, Prog.lift, Prog.bind_op, Prog.bind_ret]
  iapply (Rounds.wp_wait_rest_token 𝒱₀ ER (sched V) (c : Thread nD τ) none (κ := K (c, kBar))
      (wpE_semWait_eq 𝒱₀ (c : Thread nD τ) none Set.univ) (Set.mem_univ _) () (O := dueRecv c hops) (W := W) (R := 0) (m := 0) (T := ∅)
      (by rw [expect_bar]; decide)) $$ [HcB HO HaB]
  · isplitr; · iapply (inv_at V K (c, kBar)); iexact HR
    isplitl [HcB]; · iexact HcB
    isplitl [HO]; · iexact HO
    isplitr; · iapply (mayWait_bar c); iexact Hlev
    iexact HaB
  iintro ⟨HO, HaB, -, Hd⟩
  ihave Hd := (Entails.of_eq (rest_bar V c)) $$ Hd
  ihave Hs := (Entails.of_eq (slabs_parts c (scratchOf (V c)))) $$ Hs
  icases Hs with ⟨Hsown, Hs⟩
  -- the copies
  rw [sends_eq, runAll_map]
  iapply (wp_runAll c (fun h => sendStep c (h, peer c h)) (fun l => iprop(records V K ∗ owes (c : Thread nD τ) (dueRecv c l) (insert (SemLoc.reg barS, ()) W)))
    (fun h => iprop(slabPts (slabAt c h) c (scratchOf (V c)) ∗ (∃ f, rowPts c (peer c h) f) ∗ dutyTok ER (sendCell c h) 0 0 ∗ dutyTok ER (recvCell (peer c h) h) 0 0))
    (fun h => cred (tallyAt (sendCell c h) () N))
    (fun h l {_} k Q => wp_sendStep V K c (insert (SemLoc.reg barS, ()) W) h l k Q) _ hops) $$ [HO Hs Hd HtS HtV]
  · isplitl [HO]
    · isplitr; · iexact HR
      iexact HO
    rw [← bigSep_hops, bigSep_sep', bigSep_sep', bigSep_sep']
    isplitl [Hs]; · iexact Hs
    isplitl [Hd]; · iexact Hd
    isplitl [HtS] <;> iassumption
  iintro ⟨⟨-, HO⟩, HcS⟩
  ihave HcS := (Entails.of_eq (bigSep_hops fun h => (cred (tallyAt (sendCell c h) () N) : sProp 𝕄)).symm) $$ HcS
  -- the waits
  iapply (wp_runAll c (waitStep c) (fun _ => iprop(records V K ∗ ∃ W, owes (c : Thread nD τ) 0 W))
    (fun h => iprop((cred (tallyAt (sendCell c h) () N) ∗ cred (tallyAt (recvCell c h) () N)) ∗ atPos ER (sendCell c h) 0 ∅ 0 ∗ atPos ER (recvCell c h) 0 ∅ 0))
    (fun h => iprop((atPos ER (sendCell c h) 1 ∅ 0 ∗ atPos ER (recvCell c h) 1 ∅ 0) ∗ sendPay V c h ∗ recvPay V c h))
    (fun h l {_} k Q => wp_waitStep V K c h l k Q) _ hops) $$ [HO HcS HcV HaS HaV]
  · isplitl [HO]
    · isplitr; · iexact HR
      iexists _; iexact HO
    rw [← bigSep_hops, bigSep_sep', bigSep_sep', bigSep_sep']
    isplitl [HcS HcV]
    · isplitl [HcS] <;> iassumption
    isplitl [HaS] <;> iassumption
  iintro ⟨⟨-, HO⟩, Hback⟩
  ihave Hback := (Entails.of_eq ((bigSep_hops fun h => (iprop((atPos ER (sendCell c h) 1 ∅ 0 ∗ atPos ER (recvCell c h) 1 ∅ 0) ∗ sendPay V c h ∗ recvPay V c h) : sProp 𝕄)).symm.trans
    (by rw [bigSep_sep', bigSep_sep', bigSep_sep']))) $$ Hback
  icases Hback with ⟨⟨HaS, HaV⟩, Hs, Hd⟩
  ihave Hd := (Entails.of_eq (recvs_rows V c)) $$ Hd
  -- the semaphores close
  imod (Rounds.cell_close ER (sched V) (Set.mem_univ (K (c, kBar))) (fun h => h) (R := 0 + 1) (duties_later V (barCell c))) $$ [HaB] with HzB
  · isplitr; · iapply (inv_at V K (c, kBar)); iexact HR
    iexact HaB
  imod (close_all V K c kSend) $$ [HaS] with HzS
  · isplitr; · iexact HR
    iexact HaS
  imod (close_all V K c kRecv) $$ [HaV] with HzV
  · isplitr; · iexact HR
    iexact HaV
  rw [wp_ret]; imodintro
  iapply Hk
  isplitl [Hsown Hs]
  · rw [slabs_parts]; isplitl [Hsown]; · iexact Hsown
    iexact Hs
  isplitl [Hg Hd]
  · rw [rows_parts]; isplitl [Hg] <;> iassumption
  isplitl [HO]; · iexact HO
  unfold closed
  isplitl [HzB]; · iexact HzB
  isplitl [HzS]
  · iexact HzS
  · iexact HzV

end Cert.A2A

end
-- ==== Proof.Launch.lean ====
/-
The kernel launched on the 32 devices: what each core starts from and ends with, the protocol's ghost state made at
launch and dealt to the devices that use it, and the run of the whole program with what it leaves in each array.
-/
module

public import proofs.«01_k».proof.Proof.Body

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

/-- The one rectangle of a scale's buffer. -/
abbrev rScale : Rect S1 := Rect.unit (s := S1) ![0] S1.size inb_S1_S1_0
/-- The number in a scale's buffer. -/
def sxVal (f : (cc0_stg2_0 : Ref sig .tc).ty.Contents (Elt F)) : Elt F .f32 :=
  (sxM.access rScale : View sig .tc _ _ _).read (Elt F) f (Shape.Idx.first (numel1_S1.symm ▸ Nat.one_pos))
def swVal (f : (cc0_stg3_0 : Ref sig .tc).ty.Contents (Elt F)) : Elt F .f32 :=
  (swM.access rScale : View sig .tc _ _ _).read (Elt F) f (Shape.Idx.first (numel1_S1.symm ▸ Nat.one_pos))

/-- The product device `c` computes. -/
def prodOf (c : Dev nD) : FVec F S128x2048 .f32 := k0_pay1 (xstg m ρ c) (wstg m ρ c) (sxVal (sxstg m ρ c)) (swVal (swstg m ρ c))

/-! ## What each core holds before and after the kernel -/

def ghost (c : Dev nD) : sProp 𝕄 := iprop(∃ K, records (prodOf m ρ) K ∗ linear c)

def start (c : Dev nD) : sProp 𝕄 :=
  iprop(ghost m ρ c ∗ (cred (tallyAt (barCell c) () 31) ∗ bigSep Finset.univ fun h => cred (tallyAt (recvCell c h) () N)) ∗ levAts L lv)

def Φ₀ (c : Dev nD) : sProp 𝕄 :=
  iprop(start m ρ c ∗ ∃ f : Buf (Elt F) ((c : Thread nD τ).loc cc0_scratch0), ((c : Thread nD τ).loc cc0_scratch0) ↦{fullShare} f)
def Φ₁ (c : Dev nD) : sProp 𝕄 :=
  iprop((((c : Thread nD τ).loc cc0_scratch0) ↦{fullShare} scratchOf (prodOf m ρ c)) ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => resultOf (prodOf m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fin_N (t : Fin cfg0.N) : t = t0_0 := fin_N0 t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    xM.view.readAt (Elt F) (Rect.unit (s := S128x4096) ![0, 0] S128x4096.size inb_S128x4096_S128x4096_0_0).toLoadRect f = f :=
  Memref.readAt_unit_zero (Elt F) cc0_stg0_0 hz2 _ f
omit [FloatOps F] in
theorem read_w (f : (cc0_stg1_0 : Ref sig .tc).ty.Contents (Elt F)) :
    wM.view.readAt (Elt F) (Rect.unit (s := S4096x2048) ![0, 0] S4096x2048.size inb_S4096x2048_S4096x2048_0_0).toLoadRect f = f :=
  Memref.readAt_unit_zero (Elt F) cc0_stg1_0 hz2 _ f

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 8000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (resultOf (prodOf m ρ) c))

/-- The product formed from the four staged arguments. -/
theorem wp_productStep (c : Dev nD) (x : Buf (Elt F) ((c : Thread nD τ).loc cc0_stg0_0)) (w : Buf (Elt F) ((c : Thread nD τ).loc cc0_stg1_0))
    (sx : Buf (Elt F) ((c : Thread nD τ).loc cc0_stg2_0)) (sw : Buf (Elt F) ((c : Thread nD τ).loc cc0_stg3_0))
    {α : Type} (k : FVec F S128x2048 .f32 → Pg (F := F) α) (Q : α → sProp 𝕄) :
    iprop((((c : Thread nD τ).loc cc0_stg0_0) ↦{fullShare} x) ∗ (((c : Thread nD τ).loc cc0_stg1_0) ↦{fullShare} w)
        ∗ (((c : Thread nD τ).loc cc0_stg2_0) ↦{fullShare} sx) ∗ (((c : Thread nD τ).loc cc0_stg3_0) ↦{fullShare} sw))
      ⊢ iprop((iprop((((c : Thread nD τ).loc cc0_stg0_0) ↦{fullShare} x) ∗ (((c : Thread nD τ).loc cc0_stg1_0) ↦{fullShare} w)
          ∗ (((c : Thread nD τ).loc cc0_stg2_0) ↦{fullShare} sx) ∗ (((c : Thread nD τ).loc cc0_stg3_0) ↦{fullShare} sw))
            -∗ wpD c (k (k0_pay1 x w (sxVal sx) (swVal sw))) Q) -∗ wpD c (productStep >>= k) Q) := by
  show _ ⊢ iprop(_ -∗ wpD c (.op (.load xM (Rect.unit (s := S128x4096) ![0, 0] S128x4096.size inb_S128x4096_S128x4096_0_0).toLoadRect (View.loadsAt_vmem h_S128x4096)) fun x =>
    .op (.load wM (Rect.unit (s := S4096x2048) ![0, 0] S4096x2048.size inb_S4096x2048_S4096x2048_0_0).toLoadRect (View.loadsAt_vmem h_S4096x2048)) fun w =>
    smemLoadElt sxM rScale (View.loads_smem_one rfl numel1_S1) (Shape.Idx.first (numel1_S1.symm ▸ Nat.one_pos)) fun sx =>
    smemLoadElt swM rScale (View.loads_smem_one rfl numel1_S1) (Shape.Idx.first (numel1_S1.symm ▸ Nat.one_pos)) fun sw => k (k0_pay1 x w sx sw)) Q)
  iintro ⟨Hx, Hw, Hsx, Hsw⟩ Hk
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_smemLoadElt 𝒱₀ (c : Thread nD τ) none Set.univ (m := sxM) (r := rScale) (Finset.subset_univ _)) $$ Hsx; iintro Hsx
  iapply (wp_smemLoadElt 𝒱₀ (c : Thread nD τ) none Set.univ (m := swM) (r := rScale) (Finset.subset_univ _)) $$ Hsw; iintro Hsw
  iapply Hk
  isplitl [Hx]; · iexact Hx
  isplitl [Hw]; · iexact Hw
  isplitl [Hsx] <;> iassumption

set_option maxHeartbeats 800000 in
set_option maxRecDepth 8000 in
theorem sound_body (c : Dev nD) :
    bodyPre m ρ c ⊢ wpD c (cc0_body (F := F) xM (Memref.isWhole_whole _) wM (Memref.isWhole_whole _) sxM (Memref.isWhole_whole _) swM (Memref.isWhole_whole _)
      oM (Memref.isWhole_whole _) cM (Memref.isWhole_whole _) cc0_scratch1 cc0_scratch2) (fun _ => bodyPost m ρ c) := by
  rw [body_eq]
  simp only [Prog.lift, Prog.bind_op, Prog.bind_ret, Prog.pure_eq_ret, wp_deviceId]
  unfold bodyFrom
  rw [signalled_eq, runAll_map]
  unfold bodyPre Φ₀ start ghost linear
  iintro ⟨⟨⟨⟨%K, #HR, Hat, HtB, HtS, HtV⟩, ⟨HcB, HcV⟩, #Hlev⟩, ⟨%f, Hscr⟩⟩, Ho,
    ⟨%d0, %g0, %hg0, Hx⟩, ⟨%d1, %g1, %hg1, Hw⟩, ⟨%d2, %g2, %hg2, Hsx⟩, ⟨%d3, %g3, %hg3, Hsw⟩, ⟨%d4, %g4, %hg4, Hout⟩⟩
  have h0 : g0 = xstg m ρ c := by rw [hg0]; unfold Dat.before; rw [if_pos (fetch0_0 t0_0)]; rfl
  have h1 : g1 = wstg m ρ c := by rw [hg1]; unfold Dat.before; rw [if_pos (fetch0_1 t0_0)]; rfl
  have h2 : g2 = sxstg m ρ c := by rw [hg2]; unfold Dat.before; rw [if_pos (fetch0_2 t0_0)]; rfl
  have h3 : g3 = swstg m ρ c := by rw [hg3]; unfold Dat.before; rw [if_pos (fetch0_3 t0_0)]; rfl
  subst h0 h1 h2 h3
  unfold Dat.owesAt Pipeline.owesWithin
  icases Ho with ⟨%W, %hW, HO⟩
  rw [show (dats m ρ 0 c).owed t0_0.castSucc = O₀ c from rfl]
  unfold O₀
  ihave Hout := (Entails.of_eq (rows_parts c g4)) $$ Hout
  icases Hout with ⟨Hown, Hout⟩
  -- the handshake's signals
  iapply (wp_runAll c (fun h => signalStep (peer c h)) (fun l => iprop(records (prodOf m ρ) K ∗ owes (c : Thread nD τ) (dueRecv c hops + dueBar c l) W))
    (fun h => iprop(dutyTok ER (barCell (peer c h)) 0 h ∗ ∃ f, rowPts (peer c h) c f)) (fun _ => iprop(emp))
    (fun h l {_} k Q => wp_signalStep (prodOf m ρ) K c W h l k Q) _ hops) $$ [HO HtB Hout]
  · isplitl [HO]
    · isplitr; · iexact HR
      iexact HO
    rw [← bigSep_hops, bigSep_sep']
    isplitl [HtB]; · iexact HtB
    iapply (show (bigSep Finset.univ fun h => (rowPts (peer c h) c g4 : sProp 𝕄)) ⊢ bigSep Finset.univ fun h => iprop(∃ f, rowPts (peer c h) c f) from
      bigSep_mono fun h _ => show (rowPts (peer c h) c g4 : sProp 𝕄) ⊢ iprop(∃ f, rowPts (peer c h) c f) from by iintro H; iexists g4; iexact H) $$ Hout
  iintro ⟨⟨-, HO⟩, -⟩
  -- the product
  iapply (wp_productStep c) $$ [Hx Hw Hsx Hsw]
  · isplitl [Hx]; · iexact Hx
    isplitl [Hw]; · iexact Hw
    isplitl [Hsx] <;> iassumption
  iintro ⟨Hx, Hw, Hsx, Hsw⟩
  -- the rest
  iapply (wp_restFrom (prodOf m ρ) K c f g4 W) $$ [Hscr Hown HO HcB HcV Hat HtS HtV]
  · isplitr; · iexact HR
    isplitr; · iexact Hlev
    isplitl [Hscr]; · iexact Hscr
    isplitl [Hown]; · iexact Hown
    isplitl [HO]
    · rw [show dueRecv c hops + dueBar c [] = dueRecv c hops from add_zero _]; iexact HO
    isplitl [HcB]; · iexact HcB
    isplitl [HcV]; · iexact HcV
    isplitl [Hat]; · iexact Hat
    isplitl [HtS] <;> iassumption
  iintro ⟨Hscr, Hout, ⟨%W', HO⟩, Hz⟩
  unfold bodyPost Φ₁ Dat.owesAt Pipeline.owesWithin
  rw [show (dats m ρ 0 c).owed t0_0.succ = 0 from rfl]
  isplitl [Hscr Hz]
  · isplitl [Hscr] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 200000 in
/-- The body at the kernel's one grid point. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wpD c (cc0_body (F := F) xM (Memref.isWhole_whole _) wM (Memref.isWhole_whole _) sxM (Memref.isWhole_whole _) swM (Memref.isWhole_whole _)
      oM (Memref.isWhole_whole _) cM (Memref.isWhole_whole _) cc0_scratch1 cc0_scratch2) (fun _ => bodyPost m ρ c)
  exact sound_body m ρ c

end Body

end Cert.A2A

end
-- ==== Proof.Deal.lean ====
/-
The launch: the protocol's ghost state is made once for all devices, its tokens dealt to the devices that pay with
them, and the whole program run.
-/
module

public import proofs.«01_k».proof.Proof.Launch
public import Idealize.ShloMosaic.Lib.Pipeline.CollectiveSegs

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

set_option maxRecDepth 100000 in
theorem ownSemFacts : Pipeline.OwnSemFacts cfg0.spec osem where
  isScoped := by decide
  inj := by
    rintro (a | a) (b | b) e
    · have := congrArg Fin.val (SemLoc.dma.inj e); rw [sendS_val, sendS_val] at this; exact congrArg _ (Fin.ext (by omega))
    · have := congrArg Fin.val (SemLoc.dma.inj e); rw [sendS_val, recvS_val] at this; omega
    · have := congrArg Fin.val (SemLoc.dma.inj e); rw [recvS_val, sendS_val] at this; omega
    · have := congrArg Fin.val (SemLoc.dma.inj e); rw [recvS_val, recvS_val] at this; exact congrArg _ (Fin.ext (by omega))
  disj := by decide

theorem share_eq (c : Dev nD) (w : Fin cfg0.W) : (dats m ρ 0 c).share w = fullShare := by unfold Dat.share; split <;> rfl

theorem csem_injective : Function.Injective csem := by
  rintro (a | a) (b | b) e
  · rfl
  · rcases b with b | b <;> exact absurd e (by intro h; cases h)
  · rcases a with a | a <;> exact absurd e (by intro h; cases h)
  · exact congrArg _ (ownSemFacts.inj e)

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]
def allCells : Finset (GSem nD τ sig) := Finset.univ.map ⟨kcell, kcell_injective⟩

/-- The duties of a device's semaphores: 31 of its barrier, one of each of the others. -/
abbrev Duty : Type := Fin 31 ⊕ (Fin 31 ⊕ Fin 31)
/-- The semaphore and the name of a duty. -/
abbrev dutyAt : Duty → Cell × Fin 31 := Sum.elim (fun h => (kBar, h)) (fun k => (.inr k, 0))
abbrev tokOf (cj : Dev nD × Duty) : GSem nD τ sig × ℕ × Fin 31 := (kcell (cj.1, (dutyAt cj.2).1), 0, (dutyAt cj.2).2)
theorem tokOf_injective : Function.Injective tokOf := by
  rintro ⟨c, j⟩ ⟨c', j'⟩ h
  have h1 := kcell_injective (congrArg Prod.fst h)
  have h2 : (dutyAt j).2 = (dutyAt j').2 := congrArg (fun x : GSem nD τ sig × ℕ × Fin 31 => x.2.2) h
  have hc : c = c' := congrArg Prod.fst h1
  have hk : (dutyAt j).1 = (dutyAt j').1 := congrArg Prod.snd h1
  subst hc
  rcases j with j | j <;> rcases j' with j' | j'
  · exact congrArg (fun x => (c, Sum.inl x)) h2
  · exact absurd hk (by intro h; cases h)
  · exact absurd hk (by intro h; cases h)
  · exact congrArg (fun x => (c, Sum.inr x)) (Sum.inr.inj hk)
def allToks : Finset (GSem nD τ sig × ℕ × Fin 31) := Finset.univ.map ⟨tokOf, tokOf_injective⟩

def u₀ : UU :=
  (initOf (Pipeline.cells cfgs cellOf_inj) (Pipeline.launchToks cfgs cellOf_inj), initOf allCells allToks)

/-- The duty tokens of the device's own semaphores. -/
def toks (c : Dev nD) : sProp 𝕄 :=
  iprop((bigSep Finset.univ fun h => dutyTok ER (barCell c) 0 h) ∗ (bigSep Finset.univ fun h => dutyTok ER (sendCell c h) 0 0)
    ∗ bigSep Finset.univ fun h => dutyTok ER (recvCell c h) 0 0)

/-- What the launch makes for device `c`. -/
def G (c : Dev nD) : sProp 𝕄 :=
  iprop((bigSep Finset.univ fun k : Cell => roundState ER (sched (prodOf m ρ)) (kcell (c, k)) 0)
    ∗ (bigSep Finset.univ fun k : Cell => iprop(atPos ER (kcell (c, k)) 0 ∅ 0 ∗ reached ER (kcell (c, k)) 0)) ∗ toks c)

omit [FloatOps F] in
/-- Something for every semaphore of a device, kind by kind. -/
theorem bigSep_cell (Φ : Cell → sProp 𝕄) :
    bigSep Finset.univ Φ = iprop(Φ kBar ∗ (bigSep Finset.univ fun h => Φ (kSend h)) ∗ bigSep Finset.univ fun h => Φ (kRecv h)) := by
  rw [bigSep_univ_sum, bigSep_univ_sum, show (Finset.univ : Finset Unit) = {()} from rfl, bigSep_singleton]
  rfl

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched (prodOf m ρ)) allCells allToks) $$ HX with ⟨Hst, Hr, Hat, Htok⟩
  imodintro
  ihave Hst' := (Entails.of_eq (hX fun g => roundState ER (sched (prodOf m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun h => semVal (sendCell c h) 0) ∗ bigSep Finset.univ fun h => semVal (recvCell c h) 0) := by
  unfold Pipeline.ownSems0; rw [bigSep_univ_sum]; rfl
omit [FloatOps F] in
/-- The barrier semaphore is the one semaphore that is not the call's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (sched (prodOf m ρ)) κ (kcell (c, k))))
          ∗ (bigSep Finset.univ fun k : Cell => iprop(atPos ER (kcell (c, k)) 0 ∅ 0 ∗ reached ER (kcell (c, k)) 0)) ∗ toks c) := by
  unfold G
  rw [ownSems0_eq, unscopedSems0_eq]
  iintro ⟨⟨HS, HV⟩, HB, Hst, Hat, Htok⟩
  imod (show iprop((bigSep Finset.univ fun k : Cell => semVal (kcell (c, k)) 0) ∗ bigSep Finset.univ fun k : Cell => roundState ER (sched (prodOf m ρ)) (kcell (c, k)) 0)
      ⊢ (|={Set.univ}=> bigSep Finset.univ fun k : Cell => iprop(∃ κ : ℕ, cellInv ER (sched (prodOf m ρ)) κ (kcell (c, k))) : sProp 𝕄) from by
        rw [← bigSep_sep']
        exact (bigSep_mono fun k _ => (Rounds.body_intro ER (sched (prodOf m ρ)) (kcell (c, k))).trans inv_alloc).trans (bigSep_fupd _ _)) $$ [HS HV HB Hst] with Hinv
  · isplitr [Hst]
    · rw [bigSep_cell]
      isplitl [HB]; · iexact HB
      isplitl [HS]; · iexact HS
      iexact HV
    · iexact Hst
  imodintro
  isplitl [Hinv]; · iexact Hinv
  isplitl [Hat]; · iexact Hat
  iexact Htok

/-- The devices moved along a hop. -/
def along (h : Fin 31) : Dev nD ≃ Dev nD := ⟨fun c => peer c h, fun c => peer c h.rev, fun c => peer_rev c h, fun c => peer_rev' c h⟩

omit [FloatOps F] in
/-- Something for each device and hop, dealt along the hops. -/
theorem deal (Φ : Dev nD → Fin 31 → sProp 𝕄) :
    (bigSep Finset.univ fun c : Dev nD => bigSep Finset.univ fun h => Φ c h) = bigSep Finset.univ fun c : Dev nD => bigSep Finset.univ fun h => Φ (peer c h) h := by
  rw [bigSep_univ_comm, bigSep_univ_comm (fun c h => Φ (peer c h) h)]
  exact bigSep_congr fun h _ => bigSep_univ_equiv (along h) _

theorem linear_deal :
    iprop((bigSep Finset.univ fun c : Dev nD => bigSep Finset.univ fun k : Cell => atPos ER (kcell (c, k)) 0 ∅ 0) ∗ bigSep Finset.univ fun c : Dev nD => (toks c : sProp 𝕄))
      ⊢ bigSep Finset.univ fun c : Dev nD => linear c := by
  unfold toks linear
  simp only [bigSep_cell, bigSep_sep']
  rw [deal fun c h => dutyTok ER (barCell c) 0 h, deal fun c h => dutyTok ER (recvCell c h) 0 0]
  iintro ⟨H, H'⟩
  isplitl [H]; · iexact H
  iexact H'

theorem regroup :
    (bigSep Finset.univ fun c : Dev nD => iprop((bigSep Finset.univ fun k : Cell => iprop(∃ κ : ℕ, cellInv ER (sched (prodOf m ρ)) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (ghost m ρ) := by
  rw [bigSep_sep', bigSep_sep', ← bigSep_univ_prod (fun ck : Dev nD × Cell => iprop(∃ κ : ℕ, cellInv ER (sched (prodOf m ρ)) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched (prodOf m ρ)) κ (kcell ck) : sProp 𝕄))) $$ HI
  icases HK with ⟨%K, #HI⟩
  ihave Hl := (linear_deal (F := F)) $$ [Hat Htok]
  · isplitl [Hat] <;> iassumption
  iapply (show iprop(records (prodOf m ρ) K ∗ bigSep Finset.univ fun c : Dev nD => linear c) ⊢ bigSep Finset.univ (ghost m ρ) from
    (sep_mono_left (BI.bigSep_of_persistent (Finset.univ : Finset (Dev nD)) (records (prodOf m ρ) K))).trans (by
      rw [← bigSep_sep']
      exact bigSep_mono fun c _ => show iprop(records (prodOf m ρ) K ∗ linear c) ⊢ ghost m ρ c from by unfold ghost; iintro H; iexists K; iexact H))
  isplitr
  · unfold records; isplitr; · iexact HI
    iexact HR
  · iexact Hl

/-- The protocol set up for every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ closed
  iintro ⟨Hr, HzB, Hz⟩
  isplitl [HzB]; · iexact HzB
  isplitl [Hz]; · iexact Hz
  iexists (scratchOf (prodOf m ρ c)); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- From any memory with every semaphore at zero, every fair execution of the program on the 32 devices ends, with each
    window's array at its computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds after the run what it held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.A2A

end
-- ==== Proof.Value.lean ====
/-
The values: what the exchange leaves on every device is that device's columns of the scaled product of the whole
arrays, which is what the reference computes.
-/
module

public import proofs.«01_k».proof.Proof.Deal
public import proofs.«01_k».proof.Proof.Gen.ReferenceIdeal.Frame
public import Idealize.ShloMosaic.Lib.MatmulPlain
public import Idealize.ShloMosaic.Lib.ValueLayout
public import Idealize.ShloMosaic.Lib.Layout
public import Idealize.ShloMosaic.Lib.Pipeline.ValueKit

@[expose] public section

noncomputable section

namespace Cert.A2A

open Idealize.ShloMosaic
open Idealize.ShloMosaic.TcCoe
open Idealize.SL Idealize.SL.Sem
open scoped BigOperators

/-- Entry (r, q) of the product of `x` and `w`, times the two scales' product. -/
def entry {M : ℕ} (x : FVec Ideal ⟨2, ![M, 4096]⟩ .fp8e4m3) (w : FVec Ideal ⟨2, ![4096, 2048]⟩ .fp8e4m3) (s t : Ideal .f32) (r : Fin M) (q : Fin 2048) : Ideal .f32 :=
  FloatOps.mulf (∑ k : Fin 4096, x (ValueIdx.ix2 r k) * w (ValueIdx.ix2 k q)) (FloatOps.mulf s t)

/-- A product with no accumulated part, at an entry. -/
theorem product_entry {M : ℕ} (x : FVec Ideal ⟨2, ![M, 4096]⟩ .fp8e4m3) (w : FVec Ideal ⟨2, ![4096, 2048]⟩ .fp8e4m3) (s t : Ideal .f32) (r : Fin M) (q : Fin 2048) :
    FloatOps.mulf (FloatOps.matmul (DotDims.plain M 4096 2048) none x w (constant ⟨2, ![M, 2048]⟩ .f32 0x00000000#32) (ValueIdx.ix2 r q)) (FloatOps.mulf s t) = entry x w s t r q := by
  unfold entry
  rw [Ideal.matmul_plain_apply]
  refine congrArg (fun z => FloatOps.mulf z _) ?_
  rw [show (constant ⟨2, ![M, 2048]⟩ .f32 0x00000000#32 : FVec Ideal ⟨2, ![M, 2048]⟩ .f32) (ValueIdx.ix2 r q) = 0 from Ideal.ofBits_zero_f32]
  exact zero_add _

/-- What a device's product holds at an entry. -/
theorem pay_entry (x : Vec Ideal Cert.KernelIdeal.S128x4096 .fp8e4m3) (w : Vec Ideal Cert.KernelIdeal.S4096x2048 .fp8e4m3) (s t : Elt Ideal .f32) (r : Fin 128) (q : Fin 2048) :
    Cert.KernelIdeal.Gen.k0_pay1 x w s t (ValueIdx.ix2 r q) = entry x w s t r q := by
  unfold Cert.KernelIdeal.Gen.k0_pay1
  rw [shapeCast_self, shapeCast_self]
  exact product_entry (M := 128) x w s t r q

/-- What the reference computes at an entry. -/
theorem ref_entry (x : Vec Ideal Cert.ReferenceIdeal.S4096x4096 .fp8e4m3) (w : Vec Ideal Cert.ReferenceIdeal.S4096x2048 .fp8e4m3) (s t : Elt Ideal .f32) (r : Fin 4096) (q : Fin 2048) :
    Cert.ReferenceIdeal.Gen.k0_pay1 x w s t (ValueIdx.ix2 r q) = entry x w s t r q := by
  unfold Cert.ReferenceIdeal.Gen.k0_pay1
  exact product_entry (M := 4096) x w s t r q

/-- The block of a product that device `j` gets, at an entry. -/
theorem blockPay_entry {F : FTy → Type} [FloatOps F] (v : FVec F Cert.KernelIdeal.S128x2048 .f32) (j : Fin 32) (r : Fin 128) (q : Fin 64) :
    blockPay v j (ValueIdx.ix2 r q) = v (ValueIdx.ix2 r (⟨64 * j.val + q.val, by omega⟩ : Fin 2048)) := by
  unfold blockPay ownPay colPay
  rw [shapeCast_shapeCast]
  refine extractStridedSlice_apply _ _ _ _ _ fun a => ?_
  match a with
  | ⟨0, _⟩ => exact (Nat.zero_add _).symm
  | ⟨1, _⟩ => rfl

/-! ## The kernel's arrays -/

section Kernel

open Cert.KernelIdeal Cert.KernelIdeal.Gen

variable {F : FTy → Type} [FloatOps F]
variable (m : (ℓ : Loc nD τ sig) → Buf (Elt F) ℓ) (ρ : Dev nD → PrngReg)

/-- Every argument's window is at its array's start. -/
theorem at_start : win0_0.index (0 : Fin 1) = ![0, 0] ∧ win0_1.index (0 : Fin 1) = ![0, 0] ∧ win0_2.index (0 : Fin 1) = ![0] ∧ win0_3.index (0 : Fin 1) = ![0] := by
  decide +kernel

theorem xstg_eq (c : Dev nD) : xstg m ρ c = m ((c : Thread nD τ).loc main_arg0) := by
  blk_ext! [xstg, s₀, at_start]
theorem wstg_eq (c : Dev nD) : wstg m ρ c = m ((c : Thread nD τ).loc main_arg1) := by
  blk_ext! [wstg, s₀, at_start]
theorem sxstg_eq (c : Dev nD) : sxstg m ρ c = m ((c : Thread nD τ).loc main_arg2) := by
  blk_ext! [sxstg, s₀, at_start]
theorem swstg_eq (c : Dev nD) : swstg m ρ c = m ((c : Thread nD τ).loc main_arg3) := by
  blk_ext! [swstg, s₀, at_start]

theorem sxVal_eq (f : (cc0_stg2_0 : Ref sig .tc).ty.Contents (Elt F)) : sxVal f = f (ValueIdx.ix1 (0 : Fin 1)) := by
  unfold sxVal
  refine congrArg f (funext fun a => ?_)
  fin_cases a; rfl
theorem swVal_eq (f : (cc0_stg3_0 : Ref sig .tc).ty.Contents (Elt F)) : swVal f = f (ValueIdx.ix1 (0 : Fin 1)) := by
  unfold swVal
  refine congrArg f (funext fun a => ?_)
  fin_cases a; rfl

/-- The result's array after the run. -/
theorem finalA_out (c : Dev nD) : finalA m ρ c (4 : Fin 5) = resultOf (prodOf m ρ) c := by
  refine (dats m ρ 0 c).arrAt_eq_of_after_last (4 : Fin 5) t0_0 (by decide +kernel) _ fun j => ?_
  blk_simp
  rfl

end Kernel

/-- At an entry of device `c`'s result: the row is one of device `row / 128`'s rows. -/
theorem resultOf_entry {F : FTy → Type} [FloatOps F] (v : Dev 32 → FVec F Cert.KernelIdeal.S128x2048 .f32) (c : Fin 32) (r : Fin 4096) (q : Fin 64) :
    resultOf v c (ValueIdx.ix2 r q) = v ⟨r.val / 128, by omega⟩ (ValueIdx.ix2 (⟨r.val % 128, Nat.mod_lt _ (by decide)⟩ : Fin 128) (⟨64 * c.val + q.val, by omega⟩ : Fin 2048)) := by
  rw [← blockPay_entry (v _) c]
  unfold resultOf
  refine congrArg (blockPay _ c) (funext fun a => ?_)
  match a with
  | ⟨0, _⟩ => rfl
  | ⟨1, _⟩ => rfl

/-! ## The reference's array -/

section Reference

open Cert.ReferenceIdeal Cert.ReferenceIdeal.Gen

variable (m : (ℓ : Loc nD τ sig) → Buf (Elt Ideal) ℓ) (ρ : Dev nD → PrngReg)

theorem ref_start : win0_0.index t0_0 = ![0, 0] ∧ win0_1.index t0_0 = ![0, 0] ∧ win0_2.index t0_0 = ![0] ∧ win0_3.index t0_0 = ![0] := by
  decide +kernel

theorem rblk0 (c : Dev nD) (t) : iblk m c 0 t = m ((c : Thread nD τ).loc main_arg0) := by
  rw [fin_N0 t]; blk_ext! [iblk, V, ref_start]
theorem rblk1 (c : Dev nD) (t) : iblk m c 1 t = m ((c : Thread nD τ).loc main_arg1) := by
  rw [fin_N0 t]; blk_ext! [iblk, V, ref_start]
theorem rblk2 (c : Dev nD) (t) : iblk m c 2 t = m ((c : Thread nD τ).loc main_arg2) := by
  rw [fin_N0 t]; blk_ext! [iblk, V, ref_start]
theorem rblk3 (c : Dev nD) (t) : iblk m c 3 t = m ((c : Thread nD τ).loc main_arg3) := by
  rw [fin_N0 t]; blk_ext! [iblk, V, ref_start]

/-- What the reference leaves in its result. -/
def refOut (c : Dev nD) : (main_v0 : Ref sig .tc).ty.Contents (Elt Ideal) :=
  k0_pay1 (F := Ideal) (m ((c : Thread nD τ).loc main_arg0)) (m ((c : Thread nD τ).loc main_arg1))
    (m ((c : Thread nD τ).loc main_arg2) (ValueIdx.ix1 (0 : Fin 1))) (m ((c : Thread nD τ).loc main_arg3) (ValueIdx.ix1 (0 : Fin 1)))

theorem ref_final (c : Dev nD) : (Cert.ReferenceIdeal.Gen.dats m 0 c).arrAt (4 : Fin 5) cfg0.N = refOut m c := by
  refine (Cert.ReferenceIdeal.Gen.dats m 0 c).arrAt_eq_of_after_last (4 : Fin 5) t0_0 (by decide +kernel) _ fun j => ?_
  blk_simp
  rw [after0_4]
  unfold outsAt0
  frame_out
  rw [rblk0, rblk1, rblk2, rblk3]
  have first : ∀ h, (Shape.Idx.first h : S1.Idx) = ValueIdx.ix1 (0 : Fin 1) := fun h => funext fun a => by fin_cases a; rfl
  rw [first]
  exact congrFun (congr (congr (congrArg₂ k0_pay1 ((hs0_0 t0_0).read_unread _) ((hs0_1 t0_0).read_unread _))
    (congrFun ((hs0_2 t0_0).read_unread _) _)) (congrFun ((hs0_3 t0_0).read_unread _) _)) j

end Reference

/-! ## The two agree -/

/-- If every device holds its rows of `X` and the same `W` and scales, its result is its columns of the reference's. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (h : ∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3))
    (c : Dev Cert.KernelIdeal.nD) : resultOf (prodOf m ρ) c = Layout.block ⟨2, ![4096, 64]⟩ ⟨2, ![4096, 2048]⟩ 1 32 c (refOut m' 0) := by
  funext i
  obtain ⟨r, q, rfl⟩ : ∃ (r : Fin 4096) (q : Fin 64), i = ValueIdx.ix2 r q := ⟨i 0, i 1, ValueIdx.eq_ix2 i⟩
  rw [resultOf_entry]
  unfold prodOf
  rw [pay_entry, xstg_eq, wstg_eq, sxstg_eq, swstg_eq, sxVal_eq, swVal_eq, (h _).1, (h _).2.1, (h _).2.2.1, (h _).2.2.2, Layout.block_apply]
  rw [show (Layout.Tiles.idx (S := ⟨2, ![4096, 64]⟩) (T := ⟨2, ![4096, 2048]⟩) (a := 1) (k := 32) (by decide) c (ValueIdx.ix2 r q))
      = ValueIdx.ix2 r (⟨64 * c.val + q.val, by have : c.val < 32 := c.isLt; omega⟩ : Fin 2048) from by
    rw [ValueIdx.eq_ix2 (Layout.Tiles.idx _ c (ValueIdx.ix2 r q))]
    refine congrArg₂ ValueIdx.ix2 rfl (Fin.ext ?_)
    show c.val * 64 + q.val = 64 * c.val + q.val
    omega]
  unfold refOut
  refine Eq.trans ?_ (ref_entry _ _ _ _ r _).symm
  unfold entry
  refine congrArg (fun z => FloatOps.mulf z _) (Finset.sum_congr rfl fun k _ => ?_)
  refine congrArg (fun z => z * _) ?_
  rw [Layout.block_apply]
  refine congrArg (m' _) ?_
  rw [ValueIdx.eq_ix2 (Layout.Tiles.idx _ _ (ValueIdx.ix2 _ k))]
  refine congrArg₂ ValueIdx.ix2 (Fin.ext ?_) rfl
  show r.val / 128 * 128 + r.val % 128 = r.val
  omega

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- At any instance: the run ends, the arguments' arrays are as they were, each device's result is what the exchange
    leaves, and every semaphore is at zero. -/
theorem run {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_v1) = A2A.resultOf (A2A.prodOf m g) c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run _ _ _).mono (fun _ h => ⟨fun c => ⟨(h.1 c (4 : Fin 5)).trans (A2A.finalA_out m g c), (h.1 c (0 : Fin 5)).trans (A2A.finalA_in m g c 0 rfl),
    (h.1 c (1 : Fin 5)).trans (A2A.finalA_in m g c 1 rfl), (h.1 c (2 : Fin 5)).trans (A2A.finalA_in m g c 2 rfl), (h.1 c (3 : Fin 5)).trans (A2A.finalA_in m g c 3 rfl)⟩, h.2⟩)
    (A2A.run_main m g)

/-- The run without the results. -/
theorem run_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run _ _ _).mono (fun _ h => ⟨fun c => (h.1 c).2, h.2⟩) (run m g)

/-- The idealized program is the program's own text, so its run at the machine's numbers is the program's run. -/
theorem frame_kernel : Cert.quiescent_Kernel := fun m g _ => Eq.mp (by sl_kernel_rfl) (run_frame (F := Bits) m g)

theorem frame_kernelIdeal : Cert.quiescent_KernelIdeal := fun m g _ => run_frame m g

theorem algebraic : Cert.algebraic_KernelIdeal_ReferenceIdeal := fun m g m' g' _ hm =>
  ⟨A2A.refOut m' 0,
    (θ_run _ _ _).mono (fun _ h c => ⟨(h.1 c).1.trans (A2A.result_eq m g m' hm c), (h.1 c).2⟩) (run m g),
    (θ_run _ _ _).mono (fun _ h => ⟨((h.1.1 0).1 (4 : Fin 5)).trans (A2A.ref_final m' 0), (h.2 0)⟩)
      (θ_run_and (Cert.ReferenceIdeal.Gen.run_main_quiescent m' g') (Cert.ReferenceIdeal.Gen.unchanged m' g'))⟩

theorem claim : Cert.Claim := ⟨Cert.Kernel.Gen.facts, Cert.KernelIdeal.Gen.facts, Cert.ReferenceIdeal.Gen.facts,
  frame_kernel, frame_kernelIdeal, fun m g _ => Cert.ReferenceIdeal.Gen.frame m g, trivial, algebraic⟩

end Cert.Proof

end
